-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_in_codebook [hKernelIdeal : Cert.KernelIdeal.Facts] [hPost_in_codebook : Cert.Post_in_codebook.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_in_codebook.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v3_0)) (r.2.mem ((c.tc : Thread Cert.KernelIdeal.nD Cert.KernelIdeal.τ).loc Cert.KernelIdeal.main_v3_1)) (r.2.mem ((c.tc : Thread Cert.KernelIdeal.nD Cert.KernelIdeal.τ).loc Cert.KernelIdeal.main_v3_2))) = (fun _ => 1#1))

def holds_ReferenceIdeal_in_codebook [hReferenceIdeal : Cert.ReferenceIdeal.Facts] [hPost_in_codebook : Cert.Post_in_codebook.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ (Cert.Post_in_codebook.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (r.2.mem ((c.tc : Thread Cert.ReferenceIdeal.nD Cert.ReferenceIdeal.τ).loc Cert.ReferenceIdeal.main_v88)) (r.2.mem ((c.tc : Thread Cert.ReferenceIdeal.nD Cert.ReferenceIdeal.τ).loc Cert.ReferenceIdeal.main_v89)) (r.2.mem ((c.tc : Thread Cert.ReferenceIdeal.nD Cert.ReferenceIdeal.τ).loc Cert.ReferenceIdeal.main_v90))) = (fun _ => 1#1))

def Claim : Prop :=
  ∃ (hKernel : Cert.Kernel.Facts) (hKernelIdeal : Cert.KernelIdeal.Facts) (hReferenceIdeal : Cert.ReferenceIdeal.Facts) (hPost_in_codebook : Cert.Post_in_codebook.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_in_codebook (hKernelIdeal := hKernelIdeal) (hPost_in_codebook := hPost_in_codebook)
    ∧ holds_ReferenceIdeal_in_codebook (hReferenceIdeal := hReferenceIdeal) (hPost_in_codebook := hPost_in_codebook)
-- ==== Post_in_codebook.lean ====
abbrev S2x2048x1024 : Shape := ⟨3, ![2, 2048, 1024]⟩
abbrev S5x1024 : Shape := ⟨2, ![5, 1024]⟩
abbrev S5 : Shape := ⟨1, ![5]⟩
abbrev S1024x5 : Shape := ⟨2, ![1024, 5]⟩
abbrev S1024 : Shape := ⟨1, ![1024]⟩
abbrev S4096x1024 : Shape := ⟨2, ![4096, 1024]⟩
abbrev S4096x1 : Shape := ⟨2, ![4096, 1]⟩
abbrev S1x1 : Shape := ⟨2, ![1, 1]⟩
abbrev S_ : Shape := ⟨0, ![]⟩

class Facts : Prop where
  bcast_S_S4096x1 : S_.BroadcastsInDim S4096x1 (![] : Fin 0 → Fin S4096x1.rank)

variable [Facts]

def fn {F : FTy → Type} [FloatOps F] (main_arg0 : FVec F S2x2048x1024 .f32) (main_arg1 : FVec F S5x1024 .f32) (main_arg2 : FVec F S5 .f32) (main_arg3 : FVec F S1024x5 .f32) (main_arg4 : FVec F S1024 .f32) (main_arg5 : FVec F S4096x1024 .f32) (main_arg6 : IVec S4096x1 32) (main_arg7 : FVec F S1x1 .f32) : IVec S4096x1 1 :=
  let main_c : IVec S_ 32 := constantI S_ 32 0#32
  let main_v0 : IVec S4096x1 32 := broadcastInDim S4096x1 ![] bcast_S_S4096x1 main_c
  let main_v1 : IVec S4096x1 1 := cmpi .sge main_arg6 main_v0
  let main_c_0 : IVec S_ 32 := constantI S_ 32 5000#32
  let main_v2 : IVec S4096x1 32 := broadcastInDim S4096x1 ![] bcast_S_S4096x1 main_c_0
  let main_v3 : IVec S4096x1 1 := cmpi .slt main_arg6 main_v2
  let main_v4 : IVec S4096x1 1 := andi main_v1 main_v3
  main_v4
-- ==== Kernel.lean ====
abbrev S2x2048x1024 : Shape := ⟨3, ![2, 2048, 1024]⟩
abbrev S5x1024 : Shape := ⟨2, ![5, 1024]⟩
abbrev S5 : Shape := ⟨1, ![5]⟩
abbrev S1024x5 : Shape := ⟨2, ![1024, 5]⟩
abbrev S1024 : Shape := ⟨1, ![1024]⟩
abbrev S5x6 : Shape := ⟨2, ![5, 6]⟩
abbrev S8x5 : Shape := ⟨2, ![8, 5]⟩
abbrev S4096x1024 : Shape := ⟨2, ![4096, 1024]⟩
abbrev S5x1 : Shape := ⟨2, ![5, 1]⟩
abbrev S1x1024 : Shape := ⟨2, ![1, 1024]⟩
abbrev S4096x1 : Shape := ⟨2, ![4096, 1]⟩
abbrev S1x1 : Shape := ⟨2, ![1, 1]⟩
abbrev S2048x1024 : Shape := ⟨2, ![2048, 1024]⟩
abbrev S2048x1 : Shape := ⟨2, ![2048, 1]⟩
abbrev S125x40 : Shape := ⟨2, ![125, 40]⟩
abbrev S1 : Shape := ⟨1, ![1]⟩
abbrev S5x2048 : Shape := ⟨2, ![5, 2048]⟩
abbrev S2048 : Shape := ⟨1, ![2048]⟩
abbrev S1x2048 : Shape := ⟨2, ![1, 2048]⟩
abbrev S1x5x2048 : Shape := ⟨3, ![1, 5, 2048]⟩
abbrev S8x5x1 : Shape := ⟨3, ![8, 5, 1]⟩
abbrev S8x5x2048 : Shape := ⟨3, ![8, 5, 2048]⟩
abbrev S1x1x2048 : Shape := ⟨3, ![1, 1, 2048]⟩
abbrev S1x1x1 : Shape := ⟨3, ![1, 1, 1]⟩
abbrev S8x1x2048 : Shape := ⟨3, ![8, 1, 2048]⟩
abbrev S8x2048 : Shape := ⟨2, ![8, 2048]⟩
abbrev S5x1x2048 : Shape := ⟨3, ![5, 1, 2048]⟩
abbrev S40x2048 : Shape := ⟨2, ![40, 2048]⟩
abbrev S25x2048 : Shape := ⟨2, ![25, 2048]⟩
abbrev S125x2048 : Shape := ⟨2, ![125, 2048]⟩
abbrev S1x125x40 : Shape := ⟨3, ![1, 125, 40]⟩

abbrev nBuf : Space → Nat
  | .hbm => 14
  | .vmem => 15
  | .smem => 1
  | _ => 0

abbrev bufTy : (tb : Table) → Fin (tcTables nBuf tb) → BufTy
  | .hbm, ⟨0, _⟩ => ⟨S2x2048x1024, .f32⟩
  | .hbm, ⟨1, _⟩ => ⟨S5x1024, .f32⟩
  | .hbm, ⟨2, _⟩ => ⟨S5, .f32⟩
  | .hbm, ⟨3, _⟩ => ⟨S1024x5, .f32⟩
  | .hbm, ⟨4, _⟩ => ⟨S1024, .f32⟩
  | .hbm, ⟨5, _⟩ => ⟨S5x6, .f32⟩
  | .hbm, ⟨6, _⟩ => ⟨S8x5, .f32⟩
  | .hbm, ⟨7, _⟩ => ⟨S8x5, .f32⟩
  | .hbm, ⟨8, _⟩ => ⟨S4096x1024, .f32⟩
  | .hbm, ⟨9, _⟩ => ⟨S5x1, .f32⟩
  | .hbm, ⟨10, _⟩ => ⟨S1x1024, .f32⟩
  | .hbm, ⟨11, _⟩ => ⟨S4096x1024, .f32⟩
  | .hbm, ⟨12, _⟩ => ⟨S4096x1, .i32⟩
  | .hbm, ⟨13, _⟩ => ⟨S1x1, .f32⟩
  | .local _ .vmem, ⟨0, _⟩ => ⟨S2048x1024, .f32⟩
  | .local _ .vmem, ⟨1, _⟩ => ⟨S2048x1024, .f32⟩
  | .local _ .vmem, ⟨2, _⟩ => ⟨S5x1024, .f32⟩
  | .local _ .vmem, ⟨3, _⟩ => ⟨S5x1, .f32⟩
  | .local _ .vmem, ⟨4, _⟩ => ⟨S1024x5, .f32⟩
  | .local _ .vmem, ⟨5, _⟩ => ⟨S1x1024, .f32⟩
  | .local _ .vmem, ⟨6, _⟩ => ⟨S5x6, .f32⟩
  | .local _ .vmem, ⟨7, _⟩ => ⟨S8x5, .f32⟩
  | .local _ .vmem, ⟨8, _⟩ => ⟨S8x5, .f32⟩
  | .local _ .vmem, ⟨9, _⟩ => ⟨S2048x1024, .f32⟩
  | .local _ .vmem, ⟨10, _⟩ => ⟨S2048x1024, .f32⟩
  | .local _ .vmem, ⟨11, _⟩ => ⟨S2048x1, .i32⟩
  | .local _ .vmem, ⟨12, _⟩ => ⟨S2048x1, .i32⟩
  | .local _ .vmem, ⟨13, _⟩ => ⟨S1x1, .f32⟩
  | .local _ .vmem, ⟨14, _⟩ => ⟨S125x40, .f32⟩
  | .local _ .smem, ⟨0, _⟩ => ⟨S1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v170 : BitVec 1 := Scalar.cmpi .eq arg0 c1_i32
  let v171 : BitVec 32 := Scalar.extui v170
  let c0_i32_40 : BitVec 32 := 0#32
  let v172 : BitVec 1 := Scalar.cmpi .ne v171 c0_i32_40
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S5x1024 : Shape := ⟨2, ![5, 1024]⟩
abbrev S5 : Shape := ⟨1, ![5]⟩
abbrev S1024x5 : Shape := ⟨2, ![1024, 5]⟩
abbrev S1024 : Shape := ⟨1, ![1024]⟩
abbrev S4096x1024 : Shape := ⟨2, ![4096, 1024]⟩
abbrev S4096x5 : Shape := ⟨2, ![4096, 5]⟩
abbrev S1x5 : Shape := ⟨2, ![1, 5]⟩
abbrev S_ : Shape := ⟨0, ![]⟩
abbrev S4096 : Shape := ⟨1, ![4096]⟩
abbrev S5000x5 : Shape := ⟨2, ![5000, 5]⟩
abbrev S4096x5000 : Shape := ⟨2, ![4096, 5000]⟩
abbrev S4096x1 : Shape := ⟨2, ![4096, 1]⟩
abbrev S5000 : Shape := ⟨1, ![5000]⟩
abbrev S1x1024 : Shape := ⟨2, ![1, 1024]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S5x1024, .f32⟩
  | .hbm, ⟨2, _⟩ => ⟨S5, .f32⟩
  | .hbm, ⟨3, _⟩ => ⟨S1024x5, .f32⟩
  | .hbm, ⟨4, _⟩ => ⟨S1024, .f32⟩
  | .hbm, ⟨5, _⟩ => ⟨S5, .f32⟩
  | .hbm, ⟨6, _⟩ => ⟨S5, .f32⟩
  | .hbm, ⟨7, _⟩ => ⟨S5, .f32⟩
  | .hbm, ⟨8, _⟩ => ⟨S5, .f32⟩
  | .hbm, ⟨9, _⟩ => ⟨S5, .f32⟩
  | .hbm, ⟨10, _⟩ => ⟨S5, .i32⟩
  | .hbm, ⟨11, _⟩ => ⟨S5, .i32⟩
  | .hbm, ⟨12, _⟩ => ⟨S4096x1024, .f32⟩
  | .hbm, ⟨13, _⟩ => ⟨S4096x5, .f32⟩
  | .hbm, ⟨14, _⟩ => ⟨S1x5, .f32⟩
  | .hbm, ⟨15, _⟩ => ⟨S4096x5, .f32⟩
  | .hbm, ⟨16, _⟩ => ⟨S4096x5, .f32⟩
  | .hbm, ⟨17, _⟩ => ⟨S1x5, .f32⟩
  | .hbm, ⟨18, _⟩ => ⟨S4096x5, .f32⟩
  | .hbm, ⟨19, _⟩ => ⟨S4096x5, .f32⟩
  | .hbm, ⟨20, _⟩ => ⟨S4096x5, .f32⟩
  | .hbm, ⟨21, _⟩ => ⟨S1x5, .f32⟩
  | .hbm, ⟨22, _⟩ => ⟨S4096x5, .f32⟩
  | .hbm, ⟨23, _⟩ => ⟨S4096x5, .f32⟩
  | .hbm, ⟨24, _⟩ => ⟨S1x5, .f32⟩
  | .hbm, ⟨25, _⟩ => ⟨S4096x5, .f32⟩
  | .hbm, ⟨26, _⟩ => ⟨S4096x5, .f32⟩
  | .hbm, ⟨27, _⟩ => ⟨S4096x5, .f32⟩
  | .hbm, ⟨28, _⟩ => ⟨S4096x5, .f32⟩
  | .hbm, ⟨29, _⟩ => ⟨S4096x5, .f32⟩
  | .hbm, ⟨30, _⟩ => ⟨S1x5, .f32⟩
  | .hbm, ⟨31, _⟩ => ⟨S4096x5, .f32⟩
  | .hbm, ⟨32, _⟩ => ⟨S4096x5, .f32⟩
  | .hbm, ⟨33, _⟩ => ⟨S1x5, .f32⟩
  | .hbm, ⟨34, _⟩ => ⟨S4096x5, .f32⟩
  | .hbm, ⟨35, _⟩ => ⟨S4096x5, .f32⟩
  | .hbm, ⟨36, _⟩ => ⟨S1x5, .f32⟩
  | .hbm, ⟨37, _⟩ => ⟨S4096x5, .f32⟩
  | .hbm, ⟨38, _⟩ => ⟨S4096x5, .f32⟩
  | .hbm, ⟨39, _⟩ => ⟨S1x5, .f32⟩
  | .hbm, ⟨40, _⟩ => ⟨S4096x5, .f32⟩
  | .hbm, ⟨41, _⟩ => ⟨S4096x5, .f32⟩
  | .hbm, ⟨42, _⟩ => ⟨S_, .f32⟩
  | .hbm, ⟨43, _⟩ => ⟨S4096, .f32⟩
  | .hbm, ⟨44, _⟩ => ⟨S4096, .i32⟩
  | .hbm, ⟨45, _⟩ => ⟨S5000x5, .i32⟩
  | .hbm, ⟨46, _⟩ => ⟨S5000x5, .i32⟩
  | .hbm, ⟨47, _⟩ => ⟨S5000x5, .i32⟩
  | .hbm, ⟨48, _⟩ => ⟨S5000x5, .i32⟩
  | .hbm, ⟨49, _⟩ => ⟨S5000x5, .i32⟩
  | .hbm, ⟨50, _⟩ => ⟨S_, .i32⟩
  | .hbm, ⟨51, _⟩ => ⟨S5, .i32⟩
  | .hbm, ⟨52, _⟩ => ⟨S5, .i32⟩
  | .hbm, ⟨53, _⟩ => ⟨S1x5, .i32⟩
  | .hbm, ⟨54, _⟩ => ⟨S5000x5, .i32⟩
  | .hbm, ⟨55, _⟩ => ⟨S5000x5, .i32⟩
  | .hbm, ⟨56, _⟩ => ⟨S5000x5, .f32⟩
  | .hbm, ⟨57, _⟩ => ⟨S5, .f32⟩
  | .hbm, ⟨58, _⟩ => ⟨S1x5, .f32⟩
  | .hbm, ⟨59, _⟩ => ⟨S5000x5, .f32⟩
  | .hbm, ⟨60, _⟩ => ⟨S5000x5, .f32⟩
  | .hbm, ⟨61, _⟩ => ⟨S4096x5000, .f32⟩
  | .hbm, ⟨62, _⟩ => ⟨S_, .f32⟩
  | .hbm, ⟨63, _⟩ => ⟨S4096x5000, .f32⟩
  | .hbm, ⟨64, _⟩ => ⟨S4096x5000, .f32⟩
  | .hbm, ⟨65, _⟩ => ⟨S4096x5000, .f32⟩
  | .hbm, ⟨66, _⟩ => ⟨S_, .f32⟩
  | .hbm, ⟨67, _⟩ => ⟨S4096x5000, .f32⟩
  | .hbm, ⟨68, _⟩ => ⟨S4096x5000, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096x5000, .f32⟩
  | .hbm, ⟨76, _⟩ => ⟨S4096x5000, .f32⟩
  | .hbm, ⟨77, _⟩ => ⟨S4096x5000, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x5000, .f32⟩
  | .hbm, ⟨82, _⟩ => ⟨S4096x5000, .f32⟩
  | .hbm, ⟨83, _⟩ => ⟨S_, .f32⟩
  | .hbm, ⟨84, _⟩ => ⟨S4096x5000, .f32⟩
  | .hbm, ⟨85, _⟩ => ⟨S4096x5000, .i1⟩
  | .hbm, ⟨86, _⟩ => ⟨S4096x5000, .f32⟩
  | .hbm, ⟨87, _⟩ => ⟨S4096x5000, .f32⟩
  | .hbm, ⟨88, _⟩ => ⟨S4096x5000, .f32⟩
  | .hbm, ⟨89, _⟩ => ⟨S_, .f32⟩
  | .hbm, ⟨90, _⟩ => ⟨S_, .f32⟩
  | .hbm, ⟨91, _⟩ => ⟨S4096x5000, .f32⟩
  | .hbm, ⟨92, _⟩ => ⟨S4096x5000, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S5000, .f32⟩
  | .hbm, ⟨101, _⟩ => ⟨S_, .f32⟩
  | .hbm, ⟨102, _⟩ => ⟨S5000, .f32⟩
  | .hbm, ⟨103, _⟩ => ⟨S5000, .f32⟩
  | .hbm, ⟨104, _⟩ => ⟨S5000, .f32⟩
  | .hbm, ⟨105, _⟩ => ⟨S_, .f32⟩
  | .hbm, ⟨106, _⟩ => ⟨S5000, .f32⟩
  | .hbm, ⟨107, _⟩ => ⟨S5000, .f32⟩
  | .hbm, ⟨108, _⟩ => ⟨S5000, .f32⟩
  | .hbm, ⟨109, _⟩ => ⟨S5000, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S4096x1024, .f32⟩
  | .hbm, ⟨118, _⟩ => ⟨S1x1024, .f32⟩
  | .hbm, ⟨119, _⟩ => ⟨S4096x1024, .f32⟩
  | .hbm, ⟨120, _⟩ => ⟨S4096x1024, .f32⟩
  | .hbm, ⟨121, _⟩ => ⟨S4096x1, .i32⟩
  | .hbm, ⟨122, _⟩ => ⟨S1x1, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_c : Ref sig .tc := ⟨.hbm, 10, rfl⟩
abbrev main_c_4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_cst_21 : Ref sig .tc := ⟨.hbm, 112, rfl⟩
abbrev main_v82 : Ref sig .tc := ⟨.hbm, 113, rfl⟩
abbrev main_v83 : Ref sig .tc := ⟨.hbm, 114, rfl⟩
abbrev main_cst_22 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Proof.Frames.lean ====
/- The claims that speak of no value: the three programs run to their end, leave their arguments as they were and every
   semaphore at zero, and the idealized kernel differs from the printed one by its named constant alone. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Fsq

open Idealize.ShloMosaic Idealize.SL.Sem

/-- The kernel as printed runs and keeps its arguments. -/
theorem kernel_frame : Cert.quiescent_Kernel := fun m ρ _ => Cert.Kernel.Gen.frame m ρ

/-- The idealized kernel runs and keeps its arguments. -/
theorem kernelIdeal_frame : Cert.quiescent_KernelIdeal := fun m ρ _ => Cert.KernelIdeal.Gen.frame m ρ

/-- The reference, host operations only and no semaphore, runs and keeps its arguments. -/
theorem referenceIdeal_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mask, `-1e30` as printed, is minus infinity in the idealized kernel, as the table of named constants says. -/
theorem mask_preserves : Cert.preserves_Kernel_KernelIdeal :=
  IdealRules.named_const.statement Cert.KernelIdeal.κ "mask" .f32 0xF149F2CA#32 ⊥ rfl

end Cert.Fsq

end
-- ==== Proof.Cases.lean ====
/- What the two grid points of the kernel leave behind, as functions of the blocks they read: the two result blocks,
   the joint-probability scratch, the entropy scratch and, at the last point, the auxiliary result. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

variable {F : FTy → Type} [FloatOps F] [Named F]

/-- The block of the output projection, of the blocks of tokens, weights, biases and per-dimension constants. -/
def outBlk (x0 : Vec F S2048x1024 .f32) (x1 : Vec F S5x1024 .f32) (x2 : Vec F S5x1 .f32) (x3 : Vec F S1024x5 .f32)
    (x4 : Vec F S1x1024 .f32) (x5 : Vec F S5x6 .f32) : Vec F S2048x1024 .f32 :=
  k0_pay9 (k0_pay6 x0 x1 x2 x5) (k0_pay8 x3) x4

/-- The block of joint level probabilities, summed over the block's tokens and added to what the scratch held. -/
def psumStep (x0 : Vec F S2048x1024 .f32) (x1 : Vec F S5x1024 .f32) (x2 : Vec F S5x1 .f32) (x6 x7 : Vec F S8x5 .f32)
    (acc : Vec F S125x40 .f32) : Vec F S125x40 .f32 :=
  k0_pay1 (k0_pay16 (k0_pay11 (k0_pay4 x0 x1 x2) x6 x7) (k0_pay12 (k0_pay4 x0 x1 x2) x6 x7))
    (k0_pay17 (k0_pay11 (k0_pay4 x0 x1 x2) x6 x7) (k0_pay12 (k0_pay4 x0 x1 x2) x6 x7))
    (k0_pay18 (k0_pay11 (k0_pay4 x0 x1 x2) x6 x7) (k0_pay12 (k0_pay4 x0 x1 x2) x6 x7))
    (k0_pay19 (k0_pay11 (k0_pay4 x0 x1 x2) x6 x7) (k0_pay12 (k0_pay4 x0 x1 x2) x6 x7))
    (k0_pay20 (k0_pay11 (k0_pay4 x0 x1 x2) x6 x7) (k0_pay12 (k0_pay4 x0 x1 x2) x6 x7))
    (k0_pay21 (k0_pay11 (k0_pay4 x0 x1 x2) x6 x7) (k0_pay12 (k0_pay4 x0 x1 x2) x6 x7)) acc

/-- The block's summed entropy, added to what the scalar scratch held. -/
def entStep (x0 : Vec F S2048x1024 .f32) (x1 : Vec F S5x1024 .f32) (x2 : Vec F S5x1 .f32) (x6 x7 : Vec F S8x5 .f32)
    (e : F .f32) : F .f32 :=
  k0_pay14 (k0_pay13 (k0_pay4 x0 x1 x2) x6 x7) e

variable (m : (ℓ : Loc nD τ sig) → Buf (Elt F) ℓ)

/-- The state the body carries from a point to the next: three result blocks and two scratches. -/
abbrev State (F : FTy → Type) : Type :=
  Vec F S2048x1024 .f32 × Vec F S2048x1 .i32 × Vec F S1x1 .f32 × Vec F S125x40 .f32 × Vec F S1 .f32

/-- The first point's output block. -/
theorem first_out (c : Dev nD) (t : Fin cfg0.N) (acc : State F) (h0 : t.val % 2 = 0) (h1 : ¬t.val % 2 = 1) :
    (stAt0 m c t.val t.isLt acc).1
      = outBlk (iblk m c 0 t) (iblk m c 1 t) (iblk m c 2 t) (iblk m c 3 t) (iblk m c 4 t) (iblk m c 5 t) := by
  rw [stAt0_A m c t acc h0 h1]
  unfold outBlk
  frame_out

/-- The first point's index block. -/
theorem first_idx (c : Dev nD) (t : Fin cfg0.N) (acc : State F) (h0 : t.val % 2 = 0) (h1 : ¬t.val % 2 = 1) :
    (stAt0 m c t.val t.isLt acc).2.1
      = k0_pay7 (iblk m c 0 t) (iblk m c 1 t) (iblk m c 2 t) (iblk m c 5 t) := by
  rw [stAt0_A m c t acc h0 h1]
  frame_out

/-- The first point's joint-probability scratch: the block's, over zero. -/
theorem first_psum (c : Dev nD) (t : Fin cfg0.N) (acc : State F) (h0 : t.val % 2 = 0) (h1 : ¬t.val % 2 = 1) :
    (stAt0 m c t.val t.isLt acc).2.2.2.1
      = psumStep (iblk m c 0 t) (iblk m c 1 t) (iblk m c 2 t) (iblk m c 6 t) (iblk m c 7 t) k0_pay3 := by
  rw [stAt0_A m c t acc h0 h1]
  unfold psumStep
  frame_out

/-- The first point's entropy scratch: the block's, over zero. -/
theorem first_ent (c : Dev nD) (t : Fin cfg0.N) (acc : State F) (h0 : t.val % 2 = 0) (h1 : ¬t.val % 2 = 1) :
    (stAt0 m c t.val t.isLt acc).2.2.2.2
      = fun _ => entStep (iblk m c 0 t) (iblk m c 1 t) (iblk m c 2 t) (iblk m c 6 t) (iblk m c 7 t)
          (Scalar.ofBits .f32 0x00000000#32) := by
  rw [stAt0_A m c t acc h0 h1]
  unfold entStep
  frame_out
  rfl

/-- The last point's output block. -/
theorem last_out (c : Dev nD) (t : Fin cfg0.N) (acc : State F) (h0 : ¬t.val % 2 = 0) (h1 : t.val % 2 = 1) :
    (stAt0 m c t.val t.isLt acc).1
      = outBlk (iblk m c 0 t) (iblk m c 1 t) (iblk m c 2 t) (iblk m c 3 t) (iblk m c 4 t) (iblk m c 5 t) := by
  rw [stAt0_B m c t acc h0 h1]
  unfold outBlk
  frame_out

/-- The last point's index block. -/
theorem last_idx (c : Dev nD) (t : Fin cfg0.N) (acc : State F) (h0 : ¬t.val % 2 = 0) (h1 : t.val % 2 = 1) :
    (stAt0 m c t.val t.isLt acc).2.1
      = k0_pay7 (iblk m c 0 t) (iblk m c 1 t) (iblk m c 2 t) (iblk m c 5 t) := by
  rw [stAt0_B m c t acc h0 h1]
  frame_out

/-- The last point's auxiliary result, of the two scratches it received. -/
theorem last_aux (c : Dev nD) (t : Fin cfg0.N) (acc : State F) (h0 : ¬t.val % 2 = 0) (h1 : t.val % 2 = 1) :
    (stAt0 m c t.val t.isLt acc).2.2.1
      = k0_pay2
          (entStep (iblk m c 0 t) (iblk m c 1 t) (iblk m c 2 t) (iblk m c 6 t) (iblk m c 7 t)
            (acc.2.2.2.2 (ix1 0)))
          (psumStep (iblk m c 0 t) (iblk m c 1 t) (iblk m c 2 t) (iblk m c 6 t) (iblk m c 7 t) acc.2.2.2.1) := by
  rw [stAt0_B m c t acc h0 h1]
  unfold psumStep entStep
  frame_out
  simp only [read_unread_whole]
  rw [show (Shape.Idx.first numel1_S1.ge : S1.Idx) = ix1 0 from by
    rw [eq_ix1 (Shape.Idx.first _)]; exact congrArg ix1 (Subsingleton.elim _ _)]

end Cert.Fsq
end
-- ==== Proof.Inputs.lean ====
/- The blocks the kernel's grid points read, as the argument arrays and the three tables at an index. -/
module

public import proofs.«01_k».proof.Proof.Cases
public import Idealize.ShloMosaic.Lib.Claim
public import Idealize.ShloMosaic.Lib.Pointwise

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

variable {F : FTy → Type} [FloatOps F] [Named F]
variable (m : (ℓ : Loc nD τ sig) → Buf (Elt F) ℓ)

/-- Every window's block index at every point: the token windows move with the point, the others stay. -/
theorem idx_tok : ∀ t : Fin cfg0.N, win0_0.index t = ![t.val, 0] :=
  (by decide +kernel : ∀ t : Fin grid0.N, _)

theorem idx_fix : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem blk_z (c : Dev nD) (t : Fin cfg0.N) (h : t.val < 2) (s : Fin 2048) (j : Fin 1024) :
    iblk m c 0 t (ix2 s j) = m ((c : Thread nD τ).loc main_arg0) (ix3 ⟨t.val, h⟩ s j) := by
  blk_simp [iblk, idx_tok t]
  entry_read
  rw [show ((View.whole main_v0).slice (win0_0.rect t)).emb (ix2 s j) = ix2 ⟨t.val * 2048 + s.val, by omega⟩ j from by
    blk_ext [idx_tok t]]
  pointwise

theorem blk_win (c : Dev nD) (t : Fin cfg0.N) : iblk m c 1 t = m ((c : Thread nD τ).loc main_arg1) := by
  blk_ext! [iblk, V_main_arg1, (idx_fix t).1]

theorem blk_bin (c : Dev nD) (t : Fin cfg0.N) (d : Fin 5) : iblk m c 2 t (ix2 d 0) = m ((c : Thread nD τ).loc main_arg2) (ix1 d) := by
  blk_ext! [iblk, V, idx_fix t]

theorem blk_wout (c : Dev nD) (t : Fin cfg0.N) : iblk m c 3 t = m ((c : Thread nD τ).loc main_arg3) := by
  blk_ext! [iblk, V_main_arg3, (idx_fix t).2.2.1]

theorem blk_bout (c : Dev nD) (t : Fin cfg0.N) (d : Fin 1024) : iblk m c 4 t (ix2 0 d) = m ((c : Thread nD τ).loc main_arg4) (ix1 d) := by
  blk_ext! [iblk, V, idx_fix t]

theorem blk_qc (c : Dev nD) (t : Fin cfg0.N) : iblk m c 5 t = fun i => FloatOps.ofBits .f32 (lit0 (S5x6.rowMajor i)) := by
  funext j
  blk_simp [iblk, idx_fix t]
  entry_read
  refine congrArg (fun i => FloatOps.ofBits .f32 (lit0 (S5x6.rowMajor i))) ?_
  blk_ext [idx_fix t]

theorem blk_cs (c : Dev nD) (t : Fin cfg0.N) : iblk m c 6 t = fun i => FloatOps.ofBits .f32 (lit1 (S8x5.rowMajor i)) := by
  funext j
  blk_simp [iblk, idx_fix t]
  entry_read
  refine congrArg (fun i => FloatOps.ofBits .f32 (lit1 (S8x5.rowMajor i))) ?_
  blk_ext [idx_fix t]

theorem blk_ms (c : Dev nD) (t : Fin cfg0.N) : iblk m c 7 t = fun i => FloatOps.ofBits .f32 (lit2 (S8x5.rowMajor i)) := by
  funext j
  blk_simp [iblk, idx_fix t]
  entry_read
  refine congrArg (fun i => FloatOps.ofBits .f32 (lit2 (S8x5.rowMajor i))) ?_
  blk_ext [idx_fix t]

end Cert.Fsq
end
-- ==== Proof.RefStages.lean ====
/- The reference's results in named stages: projection, bounded value, codes, output, index, codebook, logits,
   probabilities, the auxiliary value. Each stage is read at an index. -/
module

public import proofs.«01_k».proof.Proof.Inputs
public import proofs.«01_k».proof.Proof.Gen.ReferenceIdeal.Run

@[expose] public section

set_option maxRecDepth 16384

noncomputable section

namespace Cert.Fsq.Ref

open Idealize.ShloMosaic Idealize.ShloMosaic.TcCoe Idealize.SL.Sem
open Cert.ReferenceIdeal Cert.ReferenceIdeal.Gen Cert.ReferenceIdeal.Value

/-- A row of five words, as a row of f32 values repeated for every token. -/
def rows (w : Fin 5 → BitVec 32) : FVec Ideal S4096x5 .f32 :=
  broadcastInDim S4096x5 ![0, 1] bcast_S1x5_S4096x5_0_1
    (broadcastInDim S1x5 ![1] bcast_S5_S1x5_1 (fun i => FloatOps.ofBits .f32 (w (S5.rowMajor i))))

/-- The input projection of every token. -/
def proj (z : FVec Ideal S2x2048x1024 .f32) (w : FVec Ideal S5x1024 .f32) (b : FVec Ideal S5 .f32) : FVec Ideal S4096x5 .f32 :=
  addf (Host.dotGeneral dot_S4096x1024_S5x1024_S4096x5_1_1_0_0_n_n none (shapeCast _ z shapeCasts_S2x2048x1024_S4096x1024) w)
    (broadcastInDim S4096x5 ![0, 1] bcast_S1x5_S4096x5_0_1 (broadcastInDim S1x5 ![1] bcast_S5_S1x5_1 b))

/-- The bounded projection. -/
def bounded (p : FVec Ideal S4096x5 .f32) : FVec Ideal S4096x5 .f32 :=
  subf (mulf (Host.tanh (addf p (rows lit2))) (rows lit0)) (rows lit1)

/-- The codes: the bounded value rounded (straight-through spelling), over half the width. -/
def codes (b : FVec Ideal S4096x5 .f32) : FVec Ideal S4096x5 .f32 :=
  Host.divf (addf b (subf (Host.roundeven b) b)) (rows lit3)

/-- The first result: the codes' output projection. -/
def out (q : FVec Ideal S4096x5 .f32) (w : FVec Ideal S1024x5 .f32) (b : FVec Ideal S1024 .f32) : FVec Ideal S4096x1024 .f32 :=
  addf (Host.dotGeneral dot_S4096x5_S1024x5_S4096x1024_1_1_0_0_n_n none q w)
    (broadcastInDim S4096x1024 ![0, 1] bcast_S1x1024_S4096x1024_0_1 (broadcastInDim S1x1024 ![1] bcast_S1024_S1x1024_1 b))

/-- The second result: each token's index in the codebook. -/
def idx (q : FVec Ideal S4096x5 .f32) : IVec S4096x1 32 :=
  shapeCast _ (fptosi 32 (Host.reduceAdd (mulf (addf (mulf q (rows lit3)) (rows lit3)) (rows lit4))
    (constant S_ .f32 0x00000000#32) reducesTo_S4096x5_S4096_d1 h_S_)) shapeCasts_S4096_S4096x1

/-- Half the number of levels of each dimension. -/
def half : IVec S5 32 :=
  Host.divsi ((fun i => lit5 (S5.rowMajor i)) : IVec S5 32) (broadcastInDim S5 ![] bcast_S_S5 (constantI S_ 32 2#32))

/-- The codebook. -/
def book : FVec Ideal S5000x5 .f32 :=
  Host.divf
    (sitofp .f32 (subi
      (Host.remsi (Host.divsi (iotaInDim S5000x5 32 0) (broadcastInDim S5000x5 ![1] bcast_S5_S5000x5_1 (fun i => lit6 (S5.rowMajor i))))
        (broadcastInDim S5000x5 ![1] bcast_S5_S5000x5_1 (fun i => lit5 (S5.rowMajor i))))
      (broadcastInDim S5000x5 ![0, 1] bcast_S1x5_S5000x5_0_1 (broadcastInDim S1x5 ![1] bcast_S5_S1x5_1 half))))
    (broadcastInDim S5000x5 ![0, 1] bcast_S1x5_S5000x5_0_1 (broadcastInDim S1x5 ![1] bcast_S5_S1x5_1 (sitofp .f32 half)))

/-- The scaled negative distances. -/
def logits (p : FVec Ideal S4096x5 .f32) (c : FVec Ideal S5000x5 .f32) : FVec Ideal S4096x5000 .f32 :=
  mulf (Host.negf (mulf (broadcastInDim S4096x5000 ![] bcast_S_S4096x5000 (constant S_ .f32 0xC0000000#32))
      (Host.dotGeneral dot_S4096x5_S5000x5_S4096x5000_1_1_0_0_n_n none p c)))
    (broadcastInDim S4096x5000 ![] bcast_S_S4096x5000 (constant S_ .f32 0x42C80000#32))

/-- Each token's greatest logit. -/
def rowMax (x : FVec Ideal S4096x5000 .f32) : FVec Ideal S4096 .f32 :=
  Host.reduce FloatOps.maximumf x (constant S_ .f32 0xFF800000#32) reducesTo_S4096x5000_S4096_d1 h_S_

/-- The exponentials of the logits less one number per row. -/
def expo (x : FVec Ideal S4096x5000 .f32) (r : FVec Ideal S4096 .f32) : FVec Ideal S4096x5000 .f32 :=
  Host.exp (subf x (broadcastInDim S4096x5000 ![0, 1] bcast_S4096x1_S4096x5000_0_1 (broadcastInDim S4096x1 ![0] bcast_S4096_S4096x1_0
    (maximumf (broadcastInDim S4096 ![] bcast_S_S4096 (constant S_ .f32 0xFF800000#32))
      r))))

/-- The probabilities: the exponentials over their row's sum. -/
def prob (e : FVec Ideal S4096x5000 .f32) : FVec Ideal S4096x5000 .f32 :=
  Host.divf e (broadcastInDim S4096x5000 ![0, 1] bcast_S4096x1_S4096x5000_0_1 (broadcastInDim S4096x1 ![0] bcast_S4096_S4096x1_0
    (Host.reduceAdd e (constant S_ .f32 0x00000000#32) reducesTo_S4096x5000_S4096_d1 h_S_)))

/-- The mean entropy of a token's probabilities, a probability zero counting zero. -/
def tokEnt (p : FVec Ideal S4096x5000 .f32) : FVec Ideal S_ .f32 :=
  Host.divf (Host.reduceAdd (Host.reduceAdd
    (select (cmpf .oeq p (broadcastInDim S4096x5000 ![] bcast_S_S4096x5000 (constant S_ .f32 0x00000000#32)))
      (broadcastInDim S4096x5000 ![] bcast_S_S4096x5000 (constant S_ .f32 0x00000000#32)) (mulf (Host.negf p) (Host.log p)))
    (constant S_ .f32 0x00000000#32) reducesTo_S4096x5000_S4096_d1 h_S_)
    (constant S_ .f32 0x00000000#32) reducesTo_S4096_S_d0 h_S_) (constant S_ .f32 0x45800000#32)

/-- The mean probabilities over the tokens. -/
def avg (p : FVec Ideal S4096x5000 .f32) : FVec Ideal S5000 .f32 :=
  Host.divf (Host.reduceAdd p (constant S_ .f32 0x00000000#32) reducesTo_S4096x5000_S5000_d0 h_S_)
    (broadcastInDim S5000 ![] bcast_S_S5000 (constant S_ .f32 0x45800000#32))

/-- The entropy of the mean probabilities, the logarithm's argument kept from zero. -/
def bookEnt (a : FVec Ideal S5000 .f32) : FVec Ideal S_ .f32 :=
  Host.reduceAdd (mulf (Host.negf a) (Host.log (maximumf a (broadcastInDim S5000 ![] bcast_S_S5000 (constant S_ .f32 0x3727C5AC#32)))))
    (constant S_ .f32 0x00000000#32) reducesTo_S5000_S_d0 h_S_

/-- The third result. -/
def aux (t b : FVec Ideal S_ .f32) : FVec Ideal S1x1 .f32 :=
  shapeCast _ (mulf (constant S_ .f32 0x3DCCCCCD#32) (subf t (mulf (constant S_ .f32 0x3F800000#32) b))) shapeCasts_S_S1x1

/-- The logits of the run's inputs. -/
def runLogits (m : (ℓ : Loc nD τ sig) → Buf (Elt Ideal) ℓ) (c : Dev nD) : FVec Ideal S4096x5000 .f32 :=
  logits (proj (m ((c.tc : Thread nD τ).loc main_arg0)) (m ((c.tc : Thread nD τ).loc main_arg1))
    (m ((c.tc : Thread nD τ).loc main_arg2))) book

/-- The probabilities of the run's inputs. -/
def runProb (m : (ℓ : Loc nD τ sig) → Buf (Elt Ideal) ℓ) (c : Dev nD) : FVec Ideal S4096x5000 .f32 :=
  prob (expo (runLogits m c) (rowMax (runLogits m c)))

/-- The reference's third result is the stages' composition. -/
theorem res_eq (m : (ℓ : Loc nD τ sig) → Buf (Elt Ideal) ℓ) (c : Dev nD) :
    res_out2 m c = aux (tokEnt (runProb m c)) (bookEnt (avg (runProb m c))) := by
  unfold res_out2 res_main_v90
  rfl

variable (z : FVec Ideal S2x2048x1024 .f32) (w : FVec Ideal S5x1024 .f32) (b : FVec Ideal S5 .f32)
variable (p q : FVec Ideal S4096x5 .f32) (wo : FVec Ideal S1024x5 .f32) (bo : FVec Ideal S1024 .f32)
variable (x : FVec Ideal S4096x5000 .f32) (a : FVec Ideal S5000 .f32) (c : FVec Ideal S5000x5 .f32)

/-- The stage at an index. -/
theorem rows_apply (v : Fin 5 → BitVec 32) (t : Fin 4096) (d : Fin 5) : rows v (ix2 t d)
      = Ideal.ofBits .f32 (v (S5.rowMajor (ix1 d))) := by
  pointwise [rows]

/-- The stage at an index. -/
theorem proj_apply (t : Fin 4096) (d : Fin 5) : proj z w b (ix2 t d)
      = ∑ x : Fin 1024, z (ix3 ⟨t.val / 2048, by omega⟩ ⟨t.val % 2048, by omega⟩ x) * w (ix2 d x) + b (ix1 d) := by
  pointwise [proj]

/-- The stage at an index. -/
theorem bounded_apply (t : Fin 4096) (d : Fin 5) : bounded p (ix2 t d)
      = Ideal.tanh (p (ix2 t d) + rows lit2 (ix2 t d)) * rows lit0 (ix2 t d) - rows lit1 (ix2 t d) := by
  pointwise [bounded]

/-- The stage at an index. -/
theorem codes_apply (t : Fin 4096) (d : Fin 5) : codes p (ix2 t d)
      = Ideal.div (p (ix2 t d) + (Ideal.liftRound Ideal.roundHalfEven (p (ix2 t d)) - p (ix2 t d))) (rows lit3 (ix2 t d)) := by
  pointwise [codes]

/-- The stage at an index. -/
theorem out_apply (t : Fin 4096) (d : Fin 1024) : out p wo bo (ix2 t d)
      = ∑ x : Fin 5, p (ix2 t x) * wo (ix2 d x) + bo (ix1 d) := by
  pointwise [out]

/-- The stage at an index. -/
theorem idx_apply (t : Fin 4096) : idx p (ix2 t 0)
      = FloatOps.fptosi (F := Ideal) (φ := .f32) 32 (∑ x : Fin 5, (p (ix2 t x) * rows lit3 (ix2 t x) + rows lit3 (ix2 t x)) * rows lit4 (ix2 t x)) := by
  pointwise [idx]

/-- The stage at an index. -/
theorem book_apply (k : Fin 5000) (d : Fin 5) : book (ix2 k d)
      = Ideal.div
      (FloatOps.sitofp (F := Ideal) .f32
        (IntOp.subi
          (IntOp.remsi ArithUnit.host (IntOp.divsi ArithUnit.host (BitVec.ofNat 32 k.val) (lit6 (S5.rowMajor (ix1 d))))
            (lit5 (S5.rowMajor (ix1 d))))
          (half (ix1 d))))
      (FloatOps.sitofp (F := Ideal) .f32 (half (ix1 d))) := by
  pointwise [book]

/-- The stage at an index. -/
theorem logits_apply (t : Fin 4096) (k : Fin 5000) : logits p c (ix2 t k)
      = -(Ideal.ofBits .f32 0xC0000000#32 * ∑ x : Fin 5, p (ix2 t x) * c (ix2 k x)) * Ideal.ofBits .f32 0x42C80000#32 := by
  pointwise [logits]

/-- The stage at an index. -/
theorem expo_apply (r : FVec Ideal S4096 .f32) (t : Fin 4096) (k : Fin 5000) : expo x r (ix2 t k)
      = Ideal.exp (x (ix2 t k) - max (Ideal.ofBits .f32 0xFF800000#32) (r (ix1 t))) := by
  pointwise [expo]

/-- The stage at an index. -/
theorem prob_apply (t : Fin 4096) (k : Fin 5000) : prob x (ix2 t k)
      = Ideal.div (x (ix2 t k)) (∑ j : Fin 5000, x (ix2 t j)) := by
  pointwise [prob]

/-- The stage at an index. -/
theorem tokEnt_apply (i : S_.Idx) : tokEnt x i
      = Ideal.div (∑ t : Fin 4096, ∑ k : Fin 5000, if x (ix2 t k) = 0 then 0 else -x (ix2 t k) * Ideal.log (x (ix2 t k))) (Ideal.ofBits .f32 0x45800000#32) := by
  pointwise [tokEnt]

/-- The stage at an index. -/
theorem avg_apply (k : Fin 5000) : avg x (ix1 k)
      = Ideal.div (∑ t : Fin 4096, x (ix2 t k)) (Ideal.ofBits .f32 0x45800000#32) := by
  pointwise [avg]

/-- The stage at an index. -/
theorem bookEnt_apply (i : S_.Idx) : bookEnt a i
      = ∑ k : Fin 5000, -a (ix1 k) * Ideal.log (max (a (ix1 k)) (Ideal.ofBits .f32 0x3727C5AC#32)) := by
  pointwise [bookEnt]

/-- The stage at an index. -/
theorem aux_apply (t u : FVec Ideal S_ .f32) (i : S1x1.Idx) : aux t u i
      = Ideal.ofBits .f32 0x3DCCCCCD#32 * (t ix0 - u ix0) := by
  pointwise [aux]

end Cert.Fsq.Ref
end
-- ==== Proof.Reals.lean ====
/- Extended reals that are real numbers: sums, folds of the maximum, and sums over a padded range. -/
module

public import proofs.«01_k».proof.Proof.RefStages

@[expose] public section

noncomputable section

namespace Cert.Fsq

open Idealize.ShloMosaic

/-- A sum of reals, as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of finitely many numbers, none `⊤` and one not `⊥`, is a real. -/
theorem fold_max_real {ι : Type} (S : Finset ι) (f : ι → EReal) (ht : ∀ i ∈ S, f i ≠ ⊤) (a : ι) (ha : a ∈ S) (hb : f a ≠ ⊥) :
    ∃ r : ℝ, S.fold max ⊥ f = (r : EReal) := by
  have h1 : S.fold max ⊥ f ≠ ⊤ :=
    ((Finset.fold_max_lt ⊤).2 ⟨bot_lt_top, fun i hi => lt_top_iff_ne_top.2 (ht i hi)⟩).ne
  have h2 : S.fold max ⊥ f ≠ ⊥ :=
    ((Finset.lt_fold_max ⊥).2 (Or.inr ⟨a, ha, bot_lt_iff_ne_bot.2 hb⟩)).ne'
  exact ⟨_, (EReal.coe_toReal h1 h2).symm⟩

/-- A sum over eight places whose places from `n` on hold zero is the sum over `n` places. -/
theorem sum_pad {M : Type} [AddCommMonoid M] (n : ℕ) (hn : n ≤ 8) (g : ℕ → M) (G : Fin 8 → M)
    (h : ∀ j : Fin 8, j.val < n → G j = g j.val) (h0 : ∀ j : Fin 8, ¬j.val < n → G j = 0) : ∑ j, G j = ∑ i : Fin n, g i.val := by
  have e : ∀ j : Fin 8, G j = (fun k => if k < n then g k else 0) j.val := fun j => by
    by_cases hj : j.val < n
    · simp only [hj, if_true, h j hj]
    · simp only [hj, if_false, h0 j hj]
  rw [Finset.sum_congr rfl fun j _ => e j, Fin.sum_univ_eq_sum_range (fun k => if k < n then g k else 0) 8,
    Fin.sum_univ_eq_sum_range g n, ← Finset.sum_filter]
  refine Finset.sum_congr (Finset.ext fun k => ?_) fun _ _ => rfl
  simp only [Finset.mem_filter, Finset.mem_range]
  omega

/-- A host reduction by the maximum, from `⊥`, of real entries is a real wherever some entry drops to. -/
theorem reduce_max_real {s t u : Shape} {axes : List (Fin s.rank)} (x : s.Idx → EReal) (init : u.Idx → EReal) (h : s.ReducesTo axes t)
    (hu : 0 < u.numel) (j : t.Idx) (hx : ∀ i, ∃ r : ℝ, x i = (r : EReal)) (hi : init (Shape.Idx.first hu) = ⊥)
    (i : s.Idx) (hd : h.drop i = j) : ∃ r : ℝ, Host.reduce (max : EReal → EReal → EReal) x init h hu j = (r : EReal) := by
  rw [Host.reduce_eq_fold, hi]
  refine fold_max_real _ _ (fun k _ => ?_) i (by simp only [Finset.mem_filter, Finset.mem_univ, true_and, hd]) ?_
  · obtain ⟨r, hr⟩ := hx k; rw [hr]; exact EReal.coe_ne_top r
  · obtain ⟨r, hr⟩ := hx i; rw [hr]; exact EReal.coe_ne_bot r

end Cert.Fsq
end
-- ==== Proof.Softmax.lean ====
/- Softmax over the reals: its shift, its products and its entropy. No program appears here. -/
module

public import Mathlib.Analysis.SpecialFunctions.Log.Basic
public import Mathlib.Analysis.SpecialFunctions.Exp
public import Mathlib.Algebra.BigOperators.Field

@[expose] public section

noncomputable section

namespace Cert.Fsq.Softmax

variable {A B : Type} [Fintype A] [Fintype B]

/-- The sum of the exponentials. -/
def mass (f : A → ℝ) : ℝ := ∑ i, Real.exp (f i)

/-- The softmax weight of one index. -/
def wt (f : A → ℝ) (i : A) : ℝ := Real.exp (f i) / mass f

/-- The entropy of the softmax weights. -/
def ent (f : A → ℝ) : ℝ := ∑ i, -wt f i * Real.log (wt f i)

/-- The sum of exponentials is positive. -/
theorem mass_pos [Nonempty A] (f : A → ℝ) : 0 < mass f :=
  Finset.sum_pos (fun _ _ => Real.exp_pos _) Finset.univ_nonempty

/-- Every weight is positive. -/
theorem wt_pos [Nonempty A] (f : A → ℝ) (i : A) : 0 < wt f i := div_pos (Real.exp_pos _) (mass_pos f)

/-- The weights sum to one. -/
theorem sum_wt [Nonempty A] (f : A → ℝ) : ∑ i, wt f i = 1 := by
  simp only [wt, ← Finset.sum_div]
  exact div_self (mass_pos f).ne'

/-- Taking one number from every logit leaves the weights. -/
theorem wt_shift (f : A → ℝ) (r : ℝ) : wt (fun i => f i - r) = wt f := by
  funext i
  simp only [wt, mass, Real.exp_sub, ← Finset.sum_div]
  exact div_div_div_cancel_right₀ (Real.exp_pos r).ne' _ _

/-- Taking one number from every logit leaves the entropy. -/
theorem ent_shift (f : A → ℝ) (r : ℝ) : ent (fun i => f i - r) = ent f := by
  simp only [ent, wt_shift]

/-- The entropy is the logarithm of the mass less the mean logit. -/
theorem ent_eq [Nonempty A] (f : A → ℝ) :
    ent f = Real.log (mass f) - (∑ i, Real.exp (f i) * f i) / mass f := by
  have hm := (mass_pos f).ne'
  have h : ∀ i, -wt f i * Real.log (wt f i) = wt f i * Real.log (mass f) - Real.exp (f i) * f i / mass f := by
    intro i
    rw [wt, Real.log_div (Real.exp_pos _).ne' hm, Real.log_exp]
    ring
  simp only [ent, h, Finset.sum_sub_distrib, ← Finset.sum_mul, ← Finset.sum_div, sum_wt, one_mul]

/-- The mass of a sum of logits over a product is the product of the masses. -/
theorem mass_prod (f : A → ℝ) (g : B → ℝ) : mass (fun p : A × B => f p.1 + g p.2) = mass f * mass g := by
  simp only [mass, Real.exp_add, Fintype.sum_prod_type, Finset.sum_mul_sum]

/-- The weights of a sum of logits over a product are the products of the weights. -/
theorem wt_prod (f : A → ℝ) (g : B → ℝ) (p : A × B) :
    wt (fun p : A × B => f p.1 + g p.2) p = wt f p.1 * wt g p.2 := by
  rw [wt, mass_prod, Real.exp_add, mul_div_mul_comm]; rfl

/-- The entropy of a sum of logits over a product is the sum of the entropies. -/
theorem ent_prod [Nonempty A] [Nonempty B] (f : A → ℝ) (g : B → ℝ) :
    ent (fun p : A × B => f p.1 + g p.2) = ent f + ent g := by
  have h : ∀ a b, -(wt f a * wt g b) * Real.log (wt f a * wt g b)
      = -wt f a * Real.log (wt f a) * wt g b + wt f a * (-wt g b * Real.log (wt g b)) := by
    intro a b
    rw [Real.log_mul (wt_pos f a).ne' (wt_pos g b).ne']
    ring
  simp only [ent, wt_prod, Fintype.sum_prod_type, h, Finset.sum_add_distrib, ← Finset.mul_sum, sum_wt, mul_one,
    ← Finset.sum_mul, one_mul]

/-- Renaming the indices renames the weights. -/
theorem wt_equiv (e : A ≃ B) (f : B → ℝ) (i : A) : wt (fun a => f (e a)) i = wt f (e i) := by
  simp only [wt, mass]
  rw [Equiv.sum_comp e fun b => Real.exp (f b)]

/-- Renaming the indices leaves the entropy. -/
theorem ent_equiv (e : A ≃ B) (f : B → ℝ) : ent (fun a => f (e a)) = ent f := by
  simp only [ent, wt_equiv]
  exact Equiv.sum_comp e fun b => -wt f b * Real.log (wt f b)

end Cert.Fsq.Softmax
end
-- ==== Proof.Blocks.lean ====
/- What the kernel's blocks hold at an index: each step of the body, read at one level, dimension and token. -/
module

public import proofs.«01_k».proof.Proof.Inputs

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

variable (x0 : FVec Ideal S2048x1024 .f32) (x1 : FVec Ideal S5x1024 .f32) (x2 : FVec Ideal S5x1 .f32) (x3 : FVec Ideal S1024x5 .f32)
  (x4 : FVec Ideal S1x1024 .f32) (x5 : FVec Ideal S5x6 .f32) (x6 x7 : FVec Ideal S8x5 .f32)
variable (v : FVec Ideal S5x2048 .f32) (ss : FVec Ideal S8x5x2048 .f32) (zd : FVec Ideal S5x2048 .f32)

/-- The input projection of one token on one dimension. -/
theorem proj_at (d : Fin 5) (s : Fin 2048) : k0_pay4 (F := Ideal) x0 x1 x2 (ix2 d s)
    = ∑ x : Fin 1024, x1 (ix2 d x) * x0 (ix2 s x) + x2 (ix2 d 0) := by
  pointwise [k0_pay4]

/-- The rounded bounded value of one token on one dimension. -/
theorem round_at (d : Fin 5) (s : Fin 2048) : k0_pay5 (F := Ideal) x0 x1 x2 x5 (ix2 d s)
    = Ideal.liftRound Ideal.roundHalfEven
        (Ideal.tanh (k0_pay4 (F := Ideal) x0 x1 x2 (ix2 d s) + x5 (ix2 d 0)) * x5 (ix2 d 1) - x5 (ix2 d 2)) := by
  pointwise [k0_pay5]

/-- The code of one token on one dimension. -/
theorem code_at (d : Fin 5) (s : Fin 2048) : k0_pay6 (F := Ideal) x0 x1 x2 x5 (ix2 d s)
    = k0_pay5 (F := Ideal) x0 x1 x2 x5 (ix2 d s) * x5 (ix2 d 4) := by
  pointwise [k0_pay6]

/-- One token's index in the codebook. -/
theorem index_at (s : Fin 2048) : k0_pay7 (F := Ideal) x0 x1 x2 x5 (ix2 s 0)
    = FloatOps.fptosi (F := Ideal) (φ := .f32) 32
        (∑ x : Fin 5, (k0_pay5 (F := Ideal) x0 x1 x2 x5 (ix2 x s) + x5 (ix2 x 3)) * x5 (ix2 x 5)) := by
  pointwise [k0_pay7]

/-- The output projection of one token on one feature. -/
theorem output_at (d : Fin 1024) (s : Fin 2048) : k0_pay9 (F := Ideal) v (k0_pay8 x3) x4 (ix2 s d)
    = ∑ x : Fin 5, v (ix2 x s) * x3 (ix2 d x) + x4 (ix2 0 d) := by
  pointwise [k0_pay9, k0_pay8]

/-- The scaled logit of one level, the mask added, before the maximum is taken off. -/
def level (x6 x7 : FVec Ideal S8x5 .f32) (v : FVec Ideal S5x2048 .f32) (j : Fin 8) (d : Fin 5) (s : Fin 2048) : EReal :=
  Ideal.ofBits .f32 0x43480000#32 * v (ix2 d s) * x6 (ix2 j d)
    + if x7 (ix2 j d) < 0 then Named.named (F := Ideal) κ "mask" 0xF149F2CA#32 else 0

/-- The logit of one level less the greatest over the levels. -/
theorem shifted_at (j : Fin 8) (d : Fin 5) (s : Fin 2048) : k0_pay10 (F := Ideal) v x6 x7 (ix3 j d s)
    = level x6 x7 v j d s
      - Finset.fold max (Ideal.ofBits .f32 0xFF800000#32) (fun x : Fin 8 => level x6 x7 v x d s) Finset.univ := by
  unfold level
  pointwise [k0_pay10]

/-- The exponential of a shifted logit. -/
theorem exp_at (j : Fin 8) (d : Fin 5) (s : Fin 2048) : k0_pay11 (F := Ideal) v x6 x7 (ix3 j d s)
    = Ideal.exp (k0_pay10 (F := Ideal) v x6 x7 (ix3 j d s)) := by
  pointwise [k0_pay11]

/-- One dimension's sum of exponentials. -/
theorem mass_at (d : Fin 5) (s : Fin 2048) : k0_pay12 (F := Ideal) v x6 x7 (ix2 d s)
    = ∑ x : Fin 8, Ideal.exp (k0_pay10 (F := Ideal) v x6 x7 (ix3 x d s)) := by
  pointwise [k0_pay12, k0_pay11]

/-- One token's entropy, dimension by dimension. -/
theorem entropy_at (s : Fin 2048) : k0_pay13 (F := Ideal) v x6 x7 (ix2 0 s)
    = ∑ x : Fin 5, Ideal.log (k0_pay12 (F := Ideal) v x6 x7 (ix2 x s))
      - ∑ x : Fin 5, Ideal.div (∑ j : Fin 8, Ideal.exp (k0_pay10 (F := Ideal) v x6 x7 (ix3 j x s))
          * k0_pay10 (F := Ideal) v x6 x7 (ix3 j x s)) (k0_pay12 (F := Ideal) v x6 x7 (ix2 x s)) := by
  pointwise [k0_pay13, k0_pay11]

/-- The entropies of a block's tokens, added to a number. -/
theorem entropy_sum (w : FVec Ideal S1x2048 .f32) (e : EReal) : k0_pay14 (F := Ideal) w e
    = e + ∑ _i : Fin 1, ∑ x : Fin 2048, w (ix2 0 x) := by
  pointwise [k0_pay14]

/-- The weight of one level of dimension 2. -/
theorem wt2_at (j : Fin 5) (s : Fin 2048) : k0_pay16 (F := Ideal) ss zd (ix2 j s)
    = ss (ix3 ⟨j.val, by omega⟩ 2 s) * Ideal.div 1 (zd (ix2 2 s)) := by
  pointwise [k0_pay16, k0_pay15]

/-- The weight of one level of dimension 3. -/
theorem wt3_at (j : Fin 5) (s : Fin 2048) : k0_pay17 (F := Ideal) ss zd (ix2 j s)
    = ss (ix3 ⟨j.val, by omega⟩ 3 s) * Ideal.div 1 (zd (ix2 3 s)) := by
  pointwise [k0_pay17, k0_pay15]

/-- The weight of one level of dimension 4. -/
theorem wt4_at (j : Fin 5) (s : Fin 2048) : k0_pay18 (F := Ideal) ss zd (ix2 j s)
    = ss (ix3 ⟨j.val, by omega⟩ 4 s) * Ideal.div 1 (zd (ix2 4 s)) := by
  pointwise [k0_pay18, k0_pay15]

/-- The weight of level 0 of dimension 3, times dimension 2's. -/
theorem wt30_at (j : Fin 5) (s : Fin 2048) : k0_pay20 (F := Ideal) ss zd (ix2 j s)
    = k0_pay17 (F := Ideal) ss zd (ix2 0 s) * k0_pay16 (F := Ideal) ss zd (ix2 j s) := by
  pointwise [k0_pay20]

/-- The weight of level 1 of dimension 3, repeated. -/
theorem wt31_at (j : Fin 5) (s : Fin 2048) : k0_pay21 (F := Ideal) ss zd (ix2 j s)
    = k0_pay17 (F := Ideal) ss zd (ix2 1 s) := by
  pointwise [k0_pay21]

/-- The auxiliary result of an entropy and a block of joint weights. -/
theorem aux_at (w : FVec Ideal S125x40 .f32) (e : EReal) (i : S1x1.Idx) : k0_pay2 (F := Ideal) e w i
    = Ideal.ofBits .f32 0x3DCCCCCD#32 * (Ideal.div e (Ideal.ofBits .f32 0x45800000#32)
        - ∑ x : Fin 125, ∑ y : Fin 40, (0 - w (ix2 x y) * Ideal.ofBits .f32 0x39800000#32)
          * Ideal.log (max (w (ix2 x y) * Ideal.ofBits .f32 0x39800000#32) (Ideal.ofBits .f32 0x3727C5AC#32))) := by
  pointwise [k0_pay2]

end Cert.Fsq
end
-- ==== Proof.Joint.lean ====
/- The joint weights: the entry of the kernel's 125 by 40 block at five levels is the product of the five weights,
   summed over the block's tokens. -/
module

public import proofs.«01_k».proof.Proof.Blocks

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

variable (ss : FVec Ideal S8x5x2048 .f32) (zd : FVec Ideal S5x2048 .f32)

/-- The row of the joint block that holds levels `a`, `b`, `c` of dimensions 4, 3, 2. -/
abbrev rowOf (a b c : Fin 5) : Fin 125 := ⟨a.val * 25 + b.val * 5 + c.val, by omega⟩

/-- The column of the joint block that holds levels `a`, `b` of dimensions 1, 0. -/
abbrev colOf (a : Fin 5) (b : Fin 8) : Fin 40 := ⟨a.val * 8 + b.val, by omega⟩

/-- The weight of one level of one dimension for one token. -/
def weight (j : Fin 8) (d : Fin 5) (s : Fin 2048) : EReal := ss (ix3 j d s) * Ideal.div 1 (zd (ix2 d s))

/-- The columns' factor: dimension 1's weight times dimension 0's. -/
theorem cols_at (a : Fin 5) (b : Fin 8) (s : Fin 2048) : k0_pay19 (F := Ideal) ss zd (ix2 (colOf a b) s)
    = weight ss zd ⟨a.val, by omega⟩ 1 s * weight ss zd b 0 s := by
  unfold weight
  pointwise [k0_pay19, k0_pay15]
  fin_cases a <;> simp only [] <;>
  repeat first | rw [dif_pos (by omega)] | rw [dif_neg (by omega)]
  all_goals
    exact congrArg₂ (· * ·) rfl (congrArg (fun k : Fin 8 => ss (ix3 k 0 s) * Ideal.div 1 (zd (ix2 0 s))) (Fin.ext (by dsimp only; omega)))

set_option maxHeartbeats 2000000 in
/-- The rows' factor and the sum over the tokens. -/
theorem rows_at (p2 p3 p4 p30 p31 : FVec Ideal S5x2048 .f32) (cols : FVec Ideal S40x2048 .f32) (acc : FVec Ideal S125x40 .f32)
    (h0 : ∀ j s, p30 (ix2 j s) = p3 (ix2 0 s) * p2 (ix2 j s)) (h1 : ∀ j s, p31 (ix2 j s) = p3 (ix2 1 s))
    (a b c : Fin 5) (q : Fin 40) : k0_pay1 (F := Ideal) p2 p3 p4 cols p30 p31 acc (ix2 (rowOf a b c) q)
    = acc (ix2 (rowOf a b c) q) + ∑ s : Fin 2048, p4 (ix2 a s) * (p3 (ix2 b s) * p2 (ix2 c s)) * cols (ix2 q s) := by
  pointwise [k0_pay1]
  refine congrArg (acc _ + ·) (Finset.sum_congr rfl fun s _ => congrArg (· * cols _) ?_)
  simp only [h0, h1]
  fin_cases a <;> simp only [] <;>
  repeat first | rw [dif_pos (by omega)] | rw [dif_neg (by omega)]
  all_goals
    refine congrArg (p4 _ * ·) ?_
    fin_cases b <;> simp only [] <;>
    repeat first | rw [dif_pos (by omega)] | rw [dif_neg (by omega)]
  all_goals
    refine congrArg (p3 _ * ·) (congrArg (fun k : Fin 5 => p2 (ix2 k s)) (Fin.ext (by dsimp only; omega)))

/-- The joint block after a point's step: each entry gains the tokens' products of five weights. -/
theorem joint_at (acc : FVec Ideal S125x40 .f32) (a b c d : Fin 5) (e : Fin 8) :
    k0_pay1 (F := Ideal) (k0_pay16 ss zd) (k0_pay17 ss zd) (k0_pay18 ss zd) (k0_pay19 ss zd) (k0_pay20 ss zd) (k0_pay21 ss zd) acc
        (ix2 (rowOf a b c) (colOf d e))
      = acc (ix2 (rowOf a b c) (colOf d e))
        + ∑ s : Fin 2048, weight ss zd ⟨a.val, by omega⟩ 4 s
            * (weight ss zd ⟨b.val, by omega⟩ 3 s * weight ss zd ⟨c.val, by omega⟩ 2 s)
            * (weight ss zd ⟨d.val, by omega⟩ 1 s * weight ss zd e 0 s) := by
  rw [rows_at _ _ _ _ _ _ _ (wt30_at ss zd) (wt31_at ss zd)]
  simp only [cols_at, wt2_at, wt3_at, wt4_at, weight]

end Cert.Fsq
end
-- ==== Proof.Digits.lean ====
/- A codebook entry's number and its five digits, and the softmax of a sum over the digits as a product. -/
module

public import proofs.«01_k».proof.Proof.Softmax
public import proofs.«01_k».proof.Proof.Joint

@[expose] public section

noncomputable section

namespace Cert.Fsq

open Softmax

/-- The digits of dimensions 4, 3, 2. -/
abbrev Hi : Type := Fin 5 × (Fin 5 × Fin 5)
/-- The digits of dimensions 1, 0. -/
abbrev Lo : Type := Fin 5 × Fin 8

/-- The rows of the joint block are the high digits. -/
def rowEquiv : Hi ≃ Fin 125 where
  toFun p := rowOf p.1 p.2.1 p.2.2
  invFun r := (⟨r.val / 25, by omega⟩, (⟨r.val / 5 % 5, by omega⟩, ⟨r.val % 5, by omega⟩))
  left_inv p := by
    obtain ⟨a, b, c⟩ := p
    refine Prod.ext (Fin.ext ?_) (Prod.ext (Fin.ext ?_) (Fin.ext ?_)) <;> dsimp only <;> omega
  right_inv r := Fin.ext (by dsimp only; omega)

/-- The columns of the joint block are the low digits. -/
def colEquiv : Lo ≃ Fin 40 where
  toFun p := colOf p.1 p.2
  invFun r := (⟨r.val / 8, by omega⟩, ⟨r.val % 8, by omega⟩)
  left_inv p := by
    obtain ⟨a, b⟩ := p
    refine Prod.ext (Fin.ext ?_) (Fin.ext ?_) <;> dsimp only <;> omega
  right_inv r := Fin.ext (by dsimp only; omega)

/-- The codebook entries are the digits. -/
def bookEquiv : Hi × Lo ≃ Fin 5000 where
  toFun p := ⟨(p.1.1.val * 25 + p.1.2.1.val * 5 + p.1.2.2.val) * 40 + (p.2.1.val * 8 + p.2.2.val), by omega⟩
  invFun k := ((⟨k.val / 1000, by omega⟩, (⟨k.val / 200 % 5, by omega⟩, ⟨k.val / 40 % 5, by omega⟩)),
    (⟨k.val / 8 % 5, by omega⟩, ⟨k.val % 8, by omega⟩))
  left_inv p := by
    obtain ⟨⟨a, b, c⟩, d, e⟩ := p
    refine Prod.ext (Prod.ext (Fin.ext ?_) (Prod.ext (Fin.ext ?_) (Fin.ext ?_))) (Prod.ext (Fin.ext ?_) (Fin.ext ?_)) <;>
      dsimp only <;> omega
  right_inv k := Fin.ext (by dsimp only; omega)

/-- The logits of the digits, dimension by dimension. -/
def digitSum (f : Fin 5 → ℕ → ℝ) (p : Hi × Lo) : ℝ :=
  (f 4 p.1.1.val + (f 3 p.1.2.1.val + f 2 p.1.2.2.val)) + (f 1 p.2.1.val + f 0 p.2.2.val)

/-- The weight of the digits is the product of the weights. -/
theorem wt_digits (f : Fin 5 → ℕ → ℝ) (p : Hi × Lo) : wt (digitSum f) p
    = (wt (fun i : Fin 5 => f 4 i.val) p.1.1 * (wt (fun i : Fin 5 => f 3 i.val) p.1.2.1 * wt (fun i : Fin 5 => f 2 i.val) p.1.2.2))
      * (wt (fun i : Fin 5 => f 1 i.val) p.2.1 * wt (fun i : Fin 8 => f 0 i.val) p.2.2) := by
  rw [← wt_prod (fun i : Fin 5 => f 3 i.val) (fun i : Fin 5 => f 2 i.val) p.1.2,
    ← wt_prod (fun i : Fin 5 => f 4 i.val) (fun q : Fin 5 × Fin 5 => f 3 q.1.val + f 2 q.2.val) p.1,
    ← wt_prod (fun i : Fin 5 => f 1 i.val) (fun i : Fin 8 => f 0 i.val) p.2,
    ← wt_prod (fun q : Hi => f 4 q.1.val + (f 3 q.2.1.val + f 2 q.2.2.val)) (fun q : Lo => f 1 q.1.val + f 0 q.2.val) p]
  rfl

/-- The entropy of the digits is the sum of the entropies. -/
theorem ent_digits (f : Fin 5 → ℕ → ℝ) : ent (digitSum f)
    = (ent (fun i : Fin 5 => f 4 i.val) + (ent (fun i : Fin 5 => f 3 i.val) + ent (fun i : Fin 5 => f 2 i.val)))
      + (ent (fun i : Fin 5 => f 1 i.val) + ent (fun i : Fin 8 => f 0 i.val)) := by
  rw [← ent_prod (fun i : Fin 5 => f 3 i.val) (fun i : Fin 5 => f 2 i.val),
    ← ent_prod (fun i : Fin 5 => f 4 i.val) (fun q : Fin 5 × Fin 5 => f 3 q.1.val + f 2 q.2.val),
    ← ent_prod (fun i : Fin 5 => f 1 i.val) (fun i : Fin 8 => f 0 i.val),
    ← ent_prod (fun q : Hi => f 4 q.1.val + (f 3 q.2.1.val + f 2 q.2.2.val)) (fun q : Lo => f 1 q.1.val + f 0 q.2.val)]
  rfl

end Cert.Fsq
end
-- ==== Proof.Tables.lean ====
/- The tables and constants of both programs as real numbers: the codes, the masks, the per-dimension constants and
   the reference's codebook. -/
module

public import proofs.«01_k».proof.Proof.RefStages
public import Idealize.ShloMosaic.Lib.IdealHost
public import Idealize.ShloMosaic.Lib.Routing.Words

@[expose] public section

set_option maxRecDepth 16384

noncomputable section

namespace Cert.Fsq

open Idealize.ShloMosaic Idealize.ShloMosaic.TcCoe Idealize.SL.Sem

/-- The number of levels of each dimension. -/
def nlev : Fin 5 → Nat := ![8, 5, 5, 5, 5]

/-- Half the number of levels of each dimension, rounded down. -/
def hlev : Fin 5 → Nat := ![4, 2, 2, 2, 2]

/-- The stride of each dimension's digit in the codebook's numbering. -/
def base : Fin 5 → Nat := ![1, 8, 40, 200, 1000]

/-- The code of level `n` on dimension `d`. -/
def cval (d : Fin 5) (n : Nat) : ℝ := ((n : ℝ) - (hlev d : ℝ)) / (hlev d : ℝ)

/-! ## Words as reals -/

theorem word_neg_one : Ideal.ofBits .f32 0xBF800000#32 = ((-1 : ℝ) : EReal) := by
  simp [Ideal.ofBits, Ideal.ieee, -EReal.coe_mul, -EReal.coe_neg]; norm_num
theorem word_neg_three_quarters : Ideal.ofBits .f32 0xBF400000#32 = ((-(3 / 4) : ℝ) : EReal) := by
  simp [Ideal.ofBits, Ideal.ieee, -EReal.coe_mul, -EReal.coe_neg]; norm_num
theorem word_neg_half : Ideal.ofBits .f32 0xBF000000#32 = ((-(1 / 2) : ℝ) : EReal) := by
  simp [Ideal.ofBits, Ideal.ieee, -EReal.coe_mul, -EReal.coe_neg]; norm_num
theorem word_neg_quarter : Ideal.ofBits .f32 0xBE800000#32 = ((-(1 / 4) : ℝ) : EReal) := by
  simp [Ideal.ofBits, Ideal.ieee, -EReal.coe_mul, -EReal.coe_neg]; norm_num
theorem word_zero : Ideal.ofBits .f32 0x00000000#32 = ((0 : ℝ) : EReal) := by
  simp [Ideal.ofBits, Ideal.ieee]
theorem word_quarter : Ideal.ofBits .f32 0x3E800000#32 = ((1 / 4 : ℝ) : EReal) := by
  simp [Ideal.ofBits, Ideal.ieee, -EReal.coe_mul, -EReal.coe_neg]; norm_num
theorem word_half : Ideal.ofBits .f32 0x3F000000#32 = ((1 / 2 : ℝ) : EReal) := by
  simp [Ideal.ofBits, Ideal.ieee, -EReal.coe_mul, -EReal.coe_neg]; norm_num
theorem word_three_quarters : Ideal.ofBits .f32 0x3F400000#32 = ((3 / 4 : ℝ) : EReal) := by
  simp [Ideal.ofBits, Ideal.ieee, -EReal.coe_mul, -EReal.coe_neg]; norm_num
theorem word_one : Ideal.ofBits .f32 0x3F800000#32 = ((1 : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul, -EReal.coe_neg]; norm_num
theorem word_four : Ideal.ofBits .f32 0x40800000#32 = ((4 : ℝ) : EReal) := by
  simp [Ideal.ofBits, Ideal.ieee, -EReal.coe_mul, -EReal.coe_neg]; norm_num
theorem word_neg_two : Ideal.ofBits .f32 0xC0000000#32 = ((-2 : ℝ) : EReal) := by
  simp [Ideal.ofBits, Ideal.ieee, -EReal.coe_mul, -EReal.coe_neg]; norm_num
theorem word_hundred : Ideal.ofBits .f32 0x42C80000#32 = ((100 : ℝ) : EReal) := by
  simp [Ideal.ofBits, Ideal.ieee, -EReal.coe_mul, -EReal.coe_neg]; norm_num
theorem word_two_hundred : Ideal.ofBits .f32 0x43480000#32 = ((200 : ℝ) : EReal) := by
  simp [Ideal.ofBits, Ideal.ieee, -EReal.coe_mul, -EReal.coe_neg]; norm_num
theorem word_tokens : Ideal.ofBits .f32 0x45800000#32 = ((4096 : ℝ) : EReal) := by
  simp [Ideal.ofBits, Ideal.ieee, -EReal.coe_mul, -EReal.coe_neg]; norm_num
theorem word_per_token : Ideal.ofBits .f32 0x39800000#32 = ((1 / 4096 : ℝ) : EReal) := by
  simp [Ideal.ofBits, Ideal.ieee, -EReal.coe_mul, -EReal.coe_neg]; norm_num
theorem word_bottom : Ideal.ofBits .f32 0xFF800000#32 = ⊥ := by
  simp [Ideal.ofBits, Ideal.ieee]
theorem word_mask : Ideal.ofBits .f32 0xF149F2CA#32 < 0 := by
  rw [show (0 : EReal) = ((0 : ℝ) : EReal) from rfl]
  simp [Ideal.ofBits, Ideal.ieee, -EReal.coe_mul, -EReal.coe_neg]

/-- A word whose exponent field is not all ones is a real number. -/
theorem word_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  simp only [show (2 : ℕ) ^ 8 - 1 = 255 from rfl, if_neg h]
  split
  · exact ⟨_, rfl⟩
  · exact ⟨_, rfl⟩

/-! ## The kernel's tables -/

/-- The kernel's table of codes, as words by level and dimension. -/
def codeWord : Fin 8 → Fin 5 → BitVec 32 :=
  ![![0xBF800000#32, 0xBF800000#32, 0xBF800000#32, 0xBF800000#32, 0xBF800000#32],
    ![0xBF400000#32, 0xBF000000#32, 0xBF000000#32, 0xBF000000#32, 0xBF000000#32],
    ![0xBF000000#32, 0#32, 0#32, 0#32, 0#32],
    ![0xBE800000#32, 0x3F000000#32, 0x3F000000#32, 0x3F000000#32, 0x3F000000#32],
    ![0#32, 0x3F800000#32, 0x3F800000#32, 0x3F800000#32, 0x3F800000#32],
    ![0x3E800000#32, 0#32, 0#32, 0#32, 0#32],
    ![0x3F000000#32, 0#32, 0#32, 0#32, 0#32],
    ![0x3F400000#32, 0#32, 0#32, 0#32, 0#32]]

theorem codes_word : ∀ (j : Fin 8) (d : Fin 5), KernelIdeal.lit1 (KernelIdeal.S8x5.rowMajor (ix2 j d)) = codeWord j d := by
  decide +kernel

theorem masks_word : ∀ (j : Fin 8) (d : Fin 5), KernelIdeal.lit2 (KernelIdeal.S8x5.rowMajor (ix2 j d))
    = if j.val < nlev d then 0x00000000#32 else 0xF149F2CA#32 := by
  decide +kernel

/-- A code that is a level of its dimension is the level's value. -/
theorem codes_val (j : Fin 8) (d : Fin 5) (h : j.val < nlev d) :
    Ideal.ofBits .f32 (KernelIdeal.lit1 (KernelIdeal.S8x5.rowMajor (ix2 j d))) = ((cval d j.val : ℝ) : EReal) := by
  rw [codes_word]
  revert h
  fin_cases j <;> fin_cases d <;> intro h <;> first
    | (exfalso; revert h; decide)
    | (first
        | exact word_neg_one.trans (congrArg _ (by norm_num [cval, hlev]))
        | exact word_neg_three_quarters.trans (congrArg _ (by norm_num [cval, hlev]))
        | exact word_neg_half.trans (congrArg _ (by norm_num [cval, hlev]))
        | exact word_neg_quarter.trans (congrArg _ (by norm_num [cval, hlev]))
        | exact word_zero.trans (congrArg _ (by norm_num [cval, hlev]))
        | exact word_quarter.trans (congrArg _ (by norm_num [cval, hlev]))
        | exact word_half.trans (congrArg _ (by norm_num [cval, hlev]))
        | exact word_three_quarters.trans (congrArg _ (by norm_num [cval, hlev]))
        | exact word_one.trans (congrArg _ (by norm_num [cval, hlev])))

/-- A code beyond its dimension's levels is zero. -/
theorem codes_pad (j : Fin 8) (d : Fin 5) (h : ¬j.val < nlev d) :
    Ideal.ofBits .f32 (KernelIdeal.lit1 (KernelIdeal.S8x5.rowMajor (ix2 j d))) = ((0 : ℝ) : EReal) := by
  rw [codes_word, show codeWord j d = 0#32 from by revert j d; decide +kernel]
  exact word_zero

/-- The per-dimension constants of the kernel's table are the reference's words. -/
theorem consts_word : ∀ d : Fin 5,
    KernelIdeal.lit0 (KernelIdeal.S5x6.rowMajor (ix2 d 0)) = ReferenceIdeal.lit2 (ReferenceIdeal.S5.rowMajor (ix1 d))
    ∧ KernelIdeal.lit0 (KernelIdeal.S5x6.rowMajor (ix2 d 1)) = ReferenceIdeal.lit0 (ReferenceIdeal.S5.rowMajor (ix1 d))
    ∧ KernelIdeal.lit0 (KernelIdeal.S5x6.rowMajor (ix2 d 2)) = ReferenceIdeal.lit1 (ReferenceIdeal.S5.rowMajor (ix1 d))
    ∧ KernelIdeal.lit0 (KernelIdeal.S5x6.rowMajor (ix2 d 3)) = ReferenceIdeal.lit3 (ReferenceIdeal.S5.rowMajor (ix1 d))
    ∧ KernelIdeal.lit0 (KernelIdeal.S5x6.rowMajor (ix2 d 4)) = (if d = 0 then 0x3E800000#32 else 0x3F000000#32)
    ∧ KernelIdeal.lit0 (KernelIdeal.S5x6.rowMajor (ix2 d 5)) = ReferenceIdeal.lit4 (ReferenceIdeal.S5.rowMajor (ix1 d))
    ∧ ReferenceIdeal.lit3 (ReferenceIdeal.S5.rowMajor (ix1 d)) = (if d = 0 then 0x40800000#32 else 0x40000000#32) := by
  decide +kernel

/-- Half the width of a dimension. -/
theorem width_val (d : Fin 5) : Ideal.ofBits .f32 (ReferenceIdeal.lit3 (ReferenceIdeal.S5.rowMajor (ix1 d))) = ((hlev d : ℝ) : EReal) := by
  rw [(consts_word d).2.2.2.2.2.2]
  fin_cases d
  · exact word_four.trans (congrArg _ (by norm_num [hlev]))
  all_goals exact word_two.trans (congrArg _ (by norm_num [hlev]))

/-- The reciprocal of half the width of a dimension. -/
theorem inv_width_val (d : Fin 5) : Ideal.ofBits .f32 (KernelIdeal.lit0 (KernelIdeal.S5x6.rowMajor (ix2 d 4))) = ((1 / (hlev d : ℝ) : ℝ) : EReal) := by
  rw [(consts_word d).2.2.2.2.1]
  fin_cases d
  · exact word_quarter.trans (congrArg _ (by norm_num [hlev]))
  all_goals exact word_half.trans (congrArg _ (by norm_num [hlev]))

theorem hlev_pos (d : Fin 5) : (0 : ℝ) < (hlev d : ℝ) := by
  fin_cases d <;> norm_num [hlev]

/-! ## The reference's codebook -/

theorem levels_word : ∀ d : Fin 5, ReferenceIdeal.lit5 (ReferenceIdeal.S5.rowMajor (ix1 d)) = BitVec.ofNat 32 (nlev d)
    ∧ ReferenceIdeal.lit6 (ReferenceIdeal.S5.rowMajor (ix1 d)) = BitVec.ofNat 32 (base d) := by
  decide +kernel

theorem half_word (d : Fin 5) : Ref.half (ix1 d) = BitVec.ofNat 32 (hlev d) := by
  have e : Ref.half (ix1 d) = IntOp.divsi ArithUnit.host (ReferenceIdeal.lit5 (ReferenceIdeal.S5.rowMajor (ix1 d))) 2#32 := by
    pointwise [Ref.half]
  rw [e, (levels_word d).1, show (2#32 : BitVec 32) = BitVec.ofNat 32 2 from rfl,
    Routing.divsi_word _ (by fin_cases d <;> decide) (by decide) (by decide)]
  fin_cases d <;> rfl

/-- An entry of the codebook is the value of the entry's digit on the dimension. -/
theorem book_val (k : Fin 5000) (d : Fin 5) : Ref.book (ix2 k d) = ((cval d (k.val / base d % nlev d) : ℝ) : EReal) := by
  have hb : 0 < base d ∧ base d < 2 ^ 31 := by fin_cases d <;> decide
  have hn : 0 < nlev d ∧ nlev d ≤ 8 := by fin_cases d <;> decide
  have hh : 0 < hlev d ∧ hlev d ≤ 4 := by fin_cases d <;> decide
  have hm : k.val / base d % nlev d < 8 := lt_of_lt_of_le (Nat.mod_lt _ hn.1) hn.2
  rw [Ref.book_apply, half_word, (levels_word d).1, (levels_word d).2,
    Routing.divsi_word _ (by omega) hb.1 hb.2,
    Routing.remsi_word _ (lt_of_le_of_lt (Nat.div_le_self _ _) (by omega)) hn.1 (by omega)]
  generalize hq : k.val / base d % nlev d = q at hm
  have e1 : FloatOps.sitofp (F := Ideal) .f32 (IntOp.subi (BitVec.ofNat 32 q) (BitVec.ofNat 32 (hlev d)))
      = (((q : ℝ) - (hlev d : ℝ) : ℝ) : EReal) := by
    have : (IntOp.subi (BitVec.ofNat 32 q) (BitVec.ofNat 32 (hlev d))).toInt = (q : ℤ) - (hlev d : ℤ) := by
      obtain ⟨h1, h2⟩ := hh
      generalize hlev d = h at h1 h2
      interval_cases q <;> interval_cases h <;> decide
    show (((IntOp.subi (BitVec.ofNat 32 q) (BitVec.ofNat 32 (hlev d))).toInt : ℝ) : EReal) = _
    rw [this]; push_cast; rfl
  have e2 : FloatOps.sitofp (F := Ideal) .f32 (BitVec.ofNat 32 (hlev d)) = ((hlev d : ℝ) : EReal) := by
    have : (BitVec.ofNat 32 (hlev d)).toInt = (hlev d : ℤ) := by fin_cases d <;> rfl
    show (((BitVec.ofNat 32 (hlev d)).toInt : ℝ) : EReal) = _
    rw [this]; push_cast; rfl
  rw [e1, e2, Ideal.div_coe (hlev_pos d).ne', ← EReal.coe_mul, cval, div_eq_mul_one_div (_ - _ : ℝ)]

end Cert.Fsq
end
-- ==== Proof.Token.lean ====
/- One token in the kernel, over the reals: its level weights are softmax weights and its entropy is the sum of the
   dimensions' softmax entropies. -/
module

public import proofs.«01_k».proof.Proof.Reals
public import proofs.«01_k».proof.Proof.Digits
public import proofs.«01_k».proof.Proof.Tables

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value
open Softmax

/-- The kernel's table of codes. -/
abbrev codeTab : FVec Ideal S8x5 .f32 := fun i => FloatOps.ofBits .f32 (lit1 (S8x5.rowMajor i))
/-- The kernel's table of masks. -/
abbrev maskTab : FVec Ideal S8x5 .f32 := fun i => FloatOps.ofBits .f32 (lit2 (S8x5.rowMajor i))

/-- The logit of level `n` of dimension `d` at the projection `ζ`. -/
def logit (ζ : Fin 5 → ℝ) (d : Fin 5) (n : ℕ) : ℝ := 200 * ζ d * cval d n

variable (v : FVec Ideal S5x2048 .f32) (ζ : Fin 5 → ℝ) (s : Fin 2048) (hv : ∀ d, v (ix2 d s) = (ζ d : EReal))

theorem nlev_bounds (d : Fin 5) : 0 < nlev d ∧ nlev d ≤ 8 := by fin_cases d <;> decide

include hv

/-- A level of a dimension has its logit. -/
theorem level_val (j : Fin 8) (d : Fin 5) (h : j.val < nlev d) : level codeTab maskTab v j d s = (logit ζ d j.val : EReal) := by
  have e : maskTab (ix2 j d) = 0 := by
    show Ideal.ofBits .f32 (lit2 (S8x5.rowMajor (ix2 j d))) = 0
    rw [masks_word, if_pos h]; exact word_zero
  rw [level, e, if_neg (lt_irrefl _), hv, add_zero, word_two_hundred]
  show _ * Ideal.ofBits .f32 (lit1 (S8x5.rowMajor (ix2 j d))) = _
  rw [codes_val j d h, ← EReal.coe_mul, ← EReal.coe_mul]; rfl

/-- A place beyond a dimension's levels has logit `⊥`. -/
theorem level_pad (j : Fin 8) (d : Fin 5) (h : ¬j.val < nlev d) : level codeTab maskTab v j d s = ⊥ := by
  have e : maskTab (ix2 j d) < 0 := by
    show Ideal.ofBits .f32 (lit2 (S8x5.rowMajor (ix2 j d))) < 0
    rw [masks_word, if_neg h]; exact word_mask
  rw [level, if_pos e, IdealRules.named_const.ideal_named_scalar _ _ _ _ rfl]
  exact EReal.add_bot _

/-- A dimension's greatest logit is a real number. -/
theorem max_real (d : Fin 5) : ∃ r : ℝ,
    Finset.fold max (Ideal.ofBits .f32 0xFF800000#32) (fun x : Fin 8 => level codeTab maskTab v x d s) Finset.univ = (r : EReal) := by
  rw [word_bottom]
  refine fold_max_real _ _ (fun j _ => ?_) 0 (Finset.mem_univ _) ?_
  · by_cases h : j.val < nlev d
    · rw [level_val v ζ s hv j d h]; exact EReal.coe_ne_top _
    · rw [level_pad v ζ s hv j d h]; exact bot_ne_top
  · rw [level_val v ζ s hv 0 d (nlev_bounds d).1]; exact EReal.coe_ne_bot _

/-- The shifted logits of a dimension: the logits less one real, and `⊥` beyond the levels. -/
theorem shifted_val (d : Fin 5) : ∃ r : ℝ,
    (∀ j : Fin 8, j.val < nlev d → k0_pay10 (F := Ideal) v codeTab maskTab (ix3 j d s) = ((logit ζ d j.val - r : ℝ) : EReal))
    ∧ (∀ j : Fin 8, ¬j.val < nlev d → k0_pay10 (F := Ideal) v codeTab maskTab (ix3 j d s) = ⊥) := by
  obtain ⟨r, hr⟩ := max_real v ζ s hv d
  refine ⟨r, fun j h => ?_, fun j h => ?_⟩
  · rw [shifted_at, hr, level_val v ζ s hv j d h, EReal.coe_sub]
  · rw [shifted_at, hr, level_pad v ζ s hv j d h, sub_eq_add_neg]; exact EReal.bot_add _

/-- A dimension's mass, weights and entropy terms, from its shifted logits. -/
theorem dim_val (d : Fin 5) : ∃ r : ℝ,
    k0_pay12 (F := Ideal) v codeTab maskTab (ix2 d s) = ((mass (fun i : Fin (nlev d) => logit ζ d i.val - r) : ℝ) : EReal)
    ∧ (∀ j : Fin 8, j.val < nlev d → k0_pay11 (F := Ideal) v codeTab maskTab (ix3 j d s) = ((Real.exp (logit ζ d j.val - r) : ℝ) : EReal))
    ∧ ∑ j : Fin 8, Ideal.exp (k0_pay10 (F := Ideal) v codeTab maskTab (ix3 j d s)) * k0_pay10 (F := Ideal) v codeTab maskTab (ix3 j d s)
      = ((∑ i : Fin (nlev d), Real.exp (logit ζ d i.val - r) * (logit ζ d i.val - r) : ℝ) : EReal) := by
  obtain ⟨r, h1, h0⟩ := shifted_val v ζ s hv d
  refine ⟨r, ?_, fun j h => ?_, ?_⟩
  · rw [mass_at, mass, coe_sum]
    exact sum_pad _ (nlev_bounds d).2 (fun k => ((Real.exp (logit ζ d k - r) : ℝ) : EReal)) _
      (fun j h => by rw [h1 j h]; rfl) (fun j h => by rw [h0 j h]; rfl)
  · rw [exp_at, h1 j h]; rfl
  · rw [coe_sum]
    exact sum_pad _ (nlev_bounds d).2 (fun k => ((Real.exp (logit ζ d k - r) * (logit ζ d k - r) : ℝ) : EReal)) _
      (fun j h => by rw [h1 j h, EReal.coe_mul]; rfl) (fun j h => by rw [h0 j h]; exact zero_mul _)

/-- The kernel's weight of a level is the softmax weight of its logit. -/
theorem weight_val (d : Fin 5) (n : ℕ) (hn : nlev d = n) (j : Fin 8) (h : j.val < n) :
    weight (k0_pay11 (F := Ideal) v codeTab maskTab) (k0_pay12 (F := Ideal) v codeTab maskTab) j d s
      = ((wt (fun i : Fin n => logit ζ d i.val) ⟨j.val, h⟩ : ℝ) : EReal) := by
  subst hn
  haveI : Nonempty (Fin (nlev d)) := ⟨⟨0, (nlev_bounds d).1⟩⟩
  obtain ⟨r, hm, he, -⟩ := dim_val v ζ s hv d
  rw [weight, he j h, hm, Ideal.div_coe (mass_pos _).ne', one_mul, ← EReal.coe_mul, ← wt_shift _ r, wt, div_eq_mul_one_div (Real.exp _)]

/-- The kernel's entropy of a token is the sum of the dimensions' softmax entropies. -/
theorem entropy_val : k0_pay13 (F := Ideal) v codeTab maskTab (ix2 0 s)
    = ((∑ d : Fin 5, ent (fun i : Fin (nlev d) => logit ζ d i.val) : ℝ) : EReal) := by
  choose r hm he ht using dim_val v ζ s hv
  have hne : ∀ d, Nonempty (Fin (nlev d)) := fun d => ⟨⟨0, (nlev_bounds d).1⟩⟩
  have hp : ∀ d, 0 < mass (fun i : Fin (nlev d) => logit ζ d i.val - r d) := fun d => by haveI := hne d; exact mass_pos _
  rw [entropy_at]
  simp only [hm, ht]
  have hl : ∀ d, Ideal.log ((mass (fun i : Fin (nlev d) => logit ζ d i.val - r d) : ℝ) : EReal)
      = ((Real.log (mass (fun i : Fin (nlev d) => logit ζ d i.val - r d)) : ℝ) : EReal) := fun d => by
    rw [Ideal.log_coe, if_neg (not_le.2 (hp d))]
  have hd : ∀ d, Ideal.div ((∑ i : Fin (nlev d), Real.exp (logit ζ d i.val - r d) * (logit ζ d i.val - r d) : ℝ) : EReal)
      ((mass (fun i : Fin (nlev d) => logit ζ d i.val - r d) : ℝ) : EReal)
      = (((∑ i : Fin (nlev d), Real.exp (logit ζ d i.val - r d) * (logit ζ d i.val - r d))
          / mass (fun i : Fin (nlev d) => logit ζ d i.val - r d) : ℝ) : EReal) := fun d => by
    rw [Ideal.div_coe (hp d).ne', ← EReal.coe_mul, ← div_eq_mul_one_div]
  simp only [hl, hd, ← coe_sum, ← EReal.coe_sub, ← Finset.sum_sub_distrib]
  refine congrArg _ (Finset.sum_congr rfl fun d _ => ?_)
  haveI := hne d
  rw [← ent_shift _ (r d), ent_eq]

end Cert.Fsq
end
-- ==== Proof.RefProb.lean ====
/- The reference's probabilities over the reals: the softmax of the tokens' logits over the codebook. -/
module

public import proofs.«01_k».proof.Proof.Token

@[expose] public section

set_option maxRecDepth 16384

noncomputable section

namespace Cert.Fsq

open Idealize.ShloMosaic Idealize.ShloMosaic.TcCoe Idealize.SL.Sem
open Cert.ReferenceIdeal Cert.ReferenceIdeal.Gen
open Softmax

/-- The logit of a codebook entry: the sum of its digits' logits. -/
def bookLogit (ζ : Fin 5 → ℝ) (k : Fin 5000) : ℝ := ∑ d : Fin 5, logit ζ d (k.val / base d % nlev d)

/-- A codebook entry's logit, by its digits. -/
theorem bookLogit_digits (ζ : Fin 5 → ℝ) (p : Hi × Lo) : bookLogit ζ (bookEquiv p) = digitSum (logit ζ) p := by
  obtain ⟨⟨a, b, c⟩, d, e⟩ := p
  rw [bookLogit, Fin.sum_univ_five, digitSum]
  have h : (bookEquiv ((a, b, c), d, e)).val = (a.val * 25 + b.val * 5 + c.val) * 40 + (d.val * 8 + e.val) := rfl
  have h0 : (bookEquiv ((a, b, c), d, e)).val / base 0 % nlev 0 = e.val := by
    rw [h]; show _ / 1 % 8 = _; omega
  have h1 : (bookEquiv ((a, b, c), d, e)).val / base 1 % nlev 1 = d.val := by
    rw [h]; show _ / 8 % 5 = _; omega
  have h2 : (bookEquiv ((a, b, c), d, e)).val / base 2 % nlev 2 = c.val := by
    rw [h]; show _ / 40 % 5 = _; omega
  have h3 : (bookEquiv ((a, b, c), d, e)).val / base 3 % nlev 3 = b.val := by
    rw [h]; show _ / 200 % 5 = _; omega
  have h4 : (bookEquiv ((a, b, c), d, e)).val / base 4 % nlev 4 = a.val := by
    rw [h]; show _ / 1000 % 5 = _; omega
  rw [h0, h1, h2, h3, h4]
  ring

/-- A codebook entry's softmax weight is its digits'. -/
theorem wt_book (ζ : Fin 5 → ℝ) (p : Hi × Lo) : wt (bookLogit ζ) (bookEquiv p) = wt (digitSum (logit ζ)) p := by
  rw [← wt_equiv bookEquiv (bookLogit ζ) p]
  simp only [bookLogit_digits]

/-- The softmax entropy over the codebook is the digits'. -/
theorem ent_book (ζ : Fin 5 → ℝ) : ent (bookLogit ζ) = ent (digitSum (logit ζ)) := by
  rw [← ent_equiv bookEquiv (bookLogit ζ)]
  simp only [bookLogit_digits]

variable (p : FVec Ideal S4096x5 .f32) (ζ : Fin 4096 → Fin 5 → ℝ) (hp : ∀ t d, p (ix2 t d) = (ζ t d : EReal))

include hp

/-- The reference's scaled negative distance is the entry's logit. -/
theorem logits_val (t : Fin 4096) (k : Fin 5000) : Ref.logits p Ref.book (ix2 t k) = (bookLogit (ζ t) k : EReal) := by
  rw [Ref.logits_apply, word_neg_two, word_hundred]
  simp only [hp, book_val, ← EReal.coe_mul, ← coe_sum, ← EReal.coe_neg]
  refine congrArg _ ?_
  simp only [bookLogit, logit, Finset.mul_sum, ← Finset.sum_neg_distrib, Finset.sum_mul]
  exact Finset.sum_congr rfl fun d _ => by ring

/-- A token's greatest logit is a real number. -/
theorem rowMax_real (t : Fin 4096) : ∃ r : ℝ, Ref.rowMax (Ref.logits p Ref.book) (ix1 t) = (r : EReal) := by
  refine reduce_max_real (Ref.logits p Ref.book) _ reducesTo_S4096x5000_S4096_d1 h_S_ (ix1 t) (fun i => ?_) word_bottom (ix2 t 0) ?_
  · rw [eq_ix2 i]; exact ⟨_, logits_val p ζ hp _ _⟩
  · funext a
    match a with
    | ⟨0, _⟩ => rfl

/-- The reference's probability is the entry's softmax weight. -/
theorem prob_val (t : Fin 4096) (k : Fin 5000) :
    Ref.prob (Ref.expo (Ref.logits p Ref.book) (Ref.rowMax (Ref.logits p Ref.book))) (ix2 t k) = (wt (bookLogit (ζ t)) k : EReal) := by
  obtain ⟨r, hr⟩ := rowMax_real p ζ hp t
  have e : ∀ j, Ref.expo (Ref.logits p Ref.book) (Ref.rowMax (Ref.logits p Ref.book)) (ix2 t j)
      = ((Real.exp (bookLogit (ζ t) j - r) : ℝ) : EReal) := fun j => by
    rw [Ref.expo_apply, hr, word_bottom, logits_val p ζ hp, max_eq_right bot_le, ← EReal.coe_sub]; rfl
  rw [Ref.prob_apply]
  simp only [e, ← coe_sum]
  have hm : ∑ i, Real.exp (bookLogit (ζ t) i - r) ≠ 0 := (mass_pos (fun j => bookLogit (ζ t) j - r)).ne'
  rw [Ideal.div_coe hm, ← EReal.coe_mul, ← div_eq_mul_one_div, ← wt_shift _ r, wt, mass]

end Cert.Fsq
end
-- ==== Proof.States.lean ====
/- What the kernel's three result arrays hold: the fold over the two grid points, read at an index. -/
module

public import proofs.«01_k».proof.Proof.Inputs

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

variable {F : FTy → Type} [FloatOps F] [Named F]
variable (m : (ℓ : Loc nD τ sig) → Buf (Elt F) ℓ)

/-- Grid point `p`. -/
abbrev pnt (p : Fin 2) : Fin cfg0.N := ⟨p.val, lt_of_lt_of_eq p.isLt N_0.symm⟩

/-- The state after grid point `p`. -/
def after (c : Dev nD) (p : Fin 2) : State F :=
  Pipeline.accAt (fun n h => stAt0 m c n h junk0) (stAt0 m c) 0 p.val
    (lt_of_lt_of_eq (by omega) N_0.symm)

theorem after_zero (c : Dev nD) : after m c 0 = stAt0 m c (pnt 0).val (pnt 0).isLt junk0 := rfl

theorem after_one (c : Dev nD) : after m c 1 = stAt0 m c (pnt 1).val (pnt 1).isLt (after m c 0) := rfl

/-- The output block after point `p`. -/
theorem after_out (c : Dev nD) (p : Fin 2) : (after m c p).1
    = outBlk (iblk m c 0 (pnt p)) (iblk m c 1 (pnt p)) (iblk m c 2 (pnt p)) (iblk m c 3 (pnt p)) (iblk m c 4 (pnt p)) (iblk m c 5 (pnt p)) := by
  match p with
  | 0 => rw [after_zero]; exact first_out m c (pnt 0) junk0 rfl (by decide)
  | 1 => rw [after_one]; exact last_out m c (pnt 1) _ (by decide) rfl

/-- The index block after point `p`. -/
theorem after_idx (c : Dev nD) (p : Fin 2) : (after m c p).2.1
    = k0_pay7 (iblk m c 0 (pnt p)) (iblk m c 1 (pnt p)) (iblk m c 2 (pnt p)) (iblk m c 5 (pnt p)) := by
  match p with
  | 0 => rw [after_zero]; exact first_idx m c (pnt 0) junk0 rfl (by decide)
  | 1 => rw [after_one]; exact last_idx m c (pnt 1) _ (by decide) rfl

/-- The grid point that handles token `t`, and the token's place in the point's block. -/
abbrev ptOf (t : Fin 4096) : Fin 2 := ⟨t.val / 2048, by omega⟩
abbrev inBlk (t : Fin 4096) : Fin 2048 := ⟨t.val % 2048, by omega⟩

/-- The first result at a token and a feature. -/
theorem first_result (c : Dev nD) (t : Fin 4096) (d : Fin 1024) :
    G8 m c (ix2 t d) = (after m c (ptOf t)).1 (ix2 (inBlk t) d) := by
  have hp : pt8Of (ix2 t d) = (ptOf t).val := by
    show 1 * (t.val / 2048 - 0) + 1 * (d.val / 1024 - 0) = t.val / 2048
    omega
  have hl : loc8Of (ix2 t d) = ix2 (inBlk t) d := by
    funext a
    match a with
    | ⟨0, _⟩ => rfl
    | ⟨1, _⟩ => exact Fin.ext (Nat.mod_eq_of_lt d.isLt)
  unfold G8 after
  rw [dif_pos (by rw [hp]; exact lt_of_lt_of_eq (ptOf t).isLt N_0.symm), hl, fold0_congr m c _ _ _ _ hp]

/-- The second result at a token. -/
theorem second_result (c : Dev nD) (t : Fin 4096) :
    G9 m c (ix2 t 0) = (after m c (ptOf t)).2.1 (ix2 (inBlk t) 0) := by
  have hp : pt9Of (ix2 t 0) = (ptOf t).val := by
    show 1 * (t.val / 2048 - 0) + 1 * (0 / 1 - 0) = t.val / 2048
    omega
  have hl : loc9Of (ix2 t 0) = ix2 (inBlk t) 0 := by
    funext a
    match a with
    | ⟨0, _⟩ => rfl
    | ⟨1, _⟩ => rfl
  unfold G9 after
  rw [dif_pos (by rw [hp]; exact lt_of_lt_of_eq (ptOf t).isLt N_0.symm), hl, fold0_congr m c _ _ _ _ hp]

/-- The joint block point `p` leaves over `acc`. -/
def psumAt (c : Dev nD) (p : Fin 2) (acc : Vec F S125x40 .f32) : Vec F S125x40 .f32 :=
  psumStep (iblk m c 0 (pnt p)) (iblk m c 1 (pnt p)) (iblk m c 2 (pnt p)) (iblk m c 6 (pnt p)) (iblk m c 7 (pnt p)) acc

/-- The entropy point `p` leaves over `e`. -/
def entAt (c : Dev nD) (p : Fin 2) (e : F .f32) : F .f32 :=
  entStep (iblk m c 0 (pnt p)) (iblk m c 1 (pnt p)) (iblk m c 2 (pnt p)) (iblk m c 6 (pnt p)) (iblk m c 7 (pnt p)) e

/-- The third result: the auxiliary value of both points' entropies and joint blocks. -/
theorem third_result (c : Dev nD) :
    G10 m c = k0_pay2 (entAt m c 1 (entAt m c 0 (Scalar.ofBits .f32 0x00000000#32))) (psumAt m c 1 (psumAt m c 0 k0_pay3)) := by
  rw [G10_last]
  show (after m c 1).2.2.1 = _
  rw [after_one]
  refine (last_aux m c (pnt 1) _ (by decide) rfl).trans ?_
  rw [after_zero, first_psum m c (pnt 0) junk0 rfl (by decide), first_ent m c (pnt 0) junk0 rfl (by decide)]
  rfl

end Cert.Fsq
end
-- ==== Proof.Codes.lean ====
/- The first two results: the kernel's codes, output projection and codebook indices are the reference's. -/
module

public import proofs.«01_k».proof.Proof.Blocks
public import proofs.«01_k».proof.Proof.States
public import proofs.«01_k».proof.Proof.Tables

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value

/-- A hyperbolic tangent is a real number. -/
theorem tanh_real (x : EReal) : ∃ r : ℝ, Ideal.tanh x = (r : EReal) := by
  induction x with
  | bot => exact ⟨-1, rfl⟩
  | top => exact ⟨1, rfl⟩
  | coe r => exact ⟨_, rfl⟩

/-- The per-dimension constants are real numbers. -/
theorem consts_real (d : Fin 5) : (∃ r : ℝ, Ref.rows ReferenceIdeal.lit0 (ix2 (0 : Fin 4096) d) = (r : EReal))
    ∧ (∃ r : ℝ, Ref.rows ReferenceIdeal.lit1 (ix2 (0 : Fin 4096) d) = (r : EReal))
    ∧ (∃ r : ℝ, Ref.rows ReferenceIdeal.lit2 (ix2 (0 : Fin 4096) d) = (r : EReal)) := by
  have h : ∀ d : Fin 5, ((ReferenceIdeal.lit0 (ReferenceIdeal.S5.rowMajor (ix1 d))).extractLsb' 23 8).toNat ≠ 255
      ∧ ((ReferenceIdeal.lit1 (ReferenceIdeal.S5.rowMajor (ix1 d))).extractLsb' 23 8).toNat ≠ 255
      ∧ ((ReferenceIdeal.lit2 (ReferenceIdeal.S5.rowMajor (ix1 d))).extractLsb' 23 8).toNat ≠ 255 := by decide +kernel
  simp only [Ref.rows_apply]
  exact ⟨word_real _ (h d).1, word_real _ (h d).2.1, word_real _ (h d).2.2⟩

/-- A row of constants does not depend on the token. -/
theorem rows_tok (v : Fin 5 → BitVec 32) (t : Fin 4096) (d : Fin 5) : Ref.rows v (ix2 t d) = Ref.rows v (ix2 0 d) := by
  rw [Ref.rows_apply, Ref.rows_apply]

/-- A bounded projection is a real number. -/
theorem bounded_real (p : FVec Ideal ReferenceIdeal.S4096x5 .f32) (t : Fin 4096) (d : Fin 5) :
    ∃ r : ℝ, Ref.bounded p (ix2 t d) = (r : EReal) := by
  obtain ⟨⟨a, ha⟩, ⟨b, hb⟩, -⟩ := consts_real d
  obtain ⟨y, hy⟩ := tanh_real (p (ix2 t d) + Ref.rows ReferenceIdeal.lit2 (ix2 t d))
  exact ⟨y * a - b, by rw [Ref.bounded_apply, hy, rows_tok _ t, rows_tok _ t, ha, hb, EReal.coe_sub, EReal.coe_mul]⟩

/-- The straight-through spelling is the rounded value, and its quotient by half the width a product. -/
theorem codes_eq (p : FVec Ideal ReferenceIdeal.S4096x5 .f32) (t : Fin 4096) (d : Fin 5) :
    ∃ r : ℝ, Ideal.liftRound Ideal.roundHalfEven (Ref.bounded p (ix2 t d)) = (r : EReal)
      ∧ Ref.codes (Ref.bounded p) (ix2 t d) = ((r * (1 / (hlev d : ℝ)) : ℝ) : EReal) := by
  obtain ⟨b, hb⟩ := bounded_real p t d
  refine ⟨(Ideal.roundHalfEven b : ℤ), by rw [hb]; rfl, ?_⟩
  rw [Ref.codes_apply, hb, Ref.rows_apply, width_val, Ideal.div_coe (hlev_pos d).ne']
  show ((b : EReal) + (((Ideal.roundHalfEven b : ℤ) : ℝ) - b : EReal)) * _ = _
  rw [← EReal.coe_sub, ← EReal.coe_add, add_sub_cancel, ← EReal.coe_mul]

variable (m : (ℓ : Loc nD τ sig) → Buf (Elt Ideal) ℓ) (c : Dev nD)

/-- The projections of all tokens. -/
def projs : FVec Ideal ReferenceIdeal.S4096x5 .f32 :=
  Ref.proj (m ((c : Thread nD τ).loc main_arg0)) (m ((c : Thread nD τ).loc main_arg1)) (m ((c : Thread nD τ).loc main_arg2))

/-- The kernel's projection of a token is the reference's. -/
theorem proj_eq (t : Fin 4096) (d : Fin 5) :
    k0_pay4 (F := Ideal) (iblk m c 0 (pnt (ptOf t))) (iblk m c 1 (pnt (ptOf t))) (iblk m c 2 (pnt (ptOf t))) (ix2 d (inBlk t))
      = projs m c (ix2 t d) := by
  rw [proj_at, projs, Ref.proj_apply, blk_win, blk_bin]
  refine congrArg (· + _) (Finset.sum_congr rfl fun x _ => ?_)
  rw [blk_z m c (pnt (ptOf t)) (ptOf t).isLt, mul_comm]

/-- The kernel's rounded value of a token is the reference's. -/
theorem round_eq (t : Fin 4096) (d : Fin 5) :
    k0_pay5 (F := Ideal) (iblk m c 0 (pnt (ptOf t))) (iblk m c 1 (pnt (ptOf t))) (iblk m c 2 (pnt (ptOf t))) (iblk m c 5 (pnt (ptOf t)))
        (ix2 d (inBlk t))
      = Ideal.liftRound Ideal.roundHalfEven (Ref.bounded (projs m c) (ix2 t d)) := by
  obtain ⟨e0, e1, e2, -⟩ := consts_word d
  rw [round_at, proj_eq, blk_qc, Ref.bounded_apply, Ref.rows_apply, Ref.rows_apply, Ref.rows_apply, ← e0, ← e1, ← e2]
  rfl

/-- The first result is the reference's. -/
theorem out_eq : G8 m c = Ref.out (Ref.codes (Ref.bounded (projs m c))) (m ((c : Thread nD τ).loc main_arg3)) (m ((c : Thread nD τ).loc main_arg4)) := by
  funext i
  obtain ⟨t, d, rfl⟩ : ∃ (t : Fin 4096) (d : Fin 1024), i = ix2 t d := ⟨i 0, i 1, eq_ix2 i⟩
  rw [first_result, after_out, outBlk, output_at, Ref.out_apply, blk_bout, blk_wout]
  refine congrArg (· + _) (Finset.sum_congr rfl fun x _ => congrArg (· * _) ?_)
  obtain ⟨r, hr, hc⟩ := codes_eq (projs m c) t x
  rw [code_at, round_eq, hr, hc, blk_qc, EReal.coe_mul]
  exact congrArg (_ * ·) (inv_width_val x)

/-- The second result is the reference's. -/
theorem idx_eq : G9 m c = Ref.idx (Ref.codes (Ref.bounded (projs m c))) := by
  funext i
  obtain ⟨t, rfl⟩ : ∃ t : Fin 4096, i = ix2 t 0 :=
    ⟨i 0, (eq_ix2 i).trans (congrArg (ix2 (i 0)) (Subsingleton.elim (α := Fin 1) _ _))⟩
  rw [second_result, after_idx, index_at, Ref.idx_apply]
  refine congrArg (FloatOps.fptosi (F := Ideal) (φ := .f32) 32) (Finset.sum_congr rfl fun x _ => ?_)
  obtain ⟨r, hr, hc⟩ := codes_eq (projs m c) t x
  obtain ⟨-, -, -, e3, -, e5, -⟩ := consts_word x
  have hh := (hlev_pos x).ne'
  rw [round_eq, hr, hc, blk_qc, Ref.rows_apply, Ref.rows_apply]
  show ((r : EReal) + Ideal.ofBits .f32 (lit0 (S5x6.rowMajor (ix2 x 3)))) * Ideal.ofBits .f32 (lit0 (S5x6.rowMajor (ix2 x 5))) = _
  rw [e3, e5, width_val, ← EReal.coe_mul (r * _), mul_assoc, one_div, inv_mul_cancel₀ hh, mul_one]

end Cert.Fsq
end
-- ==== Proof.Third.lean ====
/- The third result: with real projections the kernel's auxiliary value is the reference's. -/
module

public import proofs.«01_k».proof.Proof.RefProb
public import proofs.«01_k».proof.Proof.Codes

@[expose] public section

set_option maxRecDepth 16384

noncomputable section

namespace Cert.Fsq

open Idealize.ShloMosaic Idealize.ShloMosaic.TcCoe Idealize.SL.Sem
open Cert.KernelIdeal Cert.KernelIdeal.Gen Cert.KernelIdeal.Value
open Softmax

/-- Token `s` of grid point `p`. -/
abbrev tok (p : Fin 2) (s : Fin 2048) : Fin 4096 := ⟨p.val * 2048 + s.val, by omega⟩

/-- A sum over the tokens is the two points' sums. -/
theorem sum_tok {M : Type} [AddCommMonoid M] (g : Fin 4096 → M) :
    ∑ t, g t = ∑ s : Fin 2048, g (tok 0 s) + ∑ s : Fin 2048, g (tok 1 s) := by
  refine (Fin.sum_univ_add (a := 2048) (b := 2048) g).trans (congrArg₂ (· + ·) ?_ ?_)
  · exact Finset.sum_congr rfl fun s _ => congrArg g (Fin.ext (by show s.val = 0 * 2048 + s.val; omega))
  · exact Finset.sum_congr rfl fun s _ => congrArg g (Fin.ext (by show 2048 + s.val = 1 * 2048 + s.val; omega))

/-- A sum over the rows and columns of the joint block is the sum over the codebook. -/
theorem sum_joint {M : Type} [AddCommMonoid M] (G : Fin 125 → Fin 40 → M) (g : Fin 5000 → M)
    (h : ∀ p l, G (rowEquiv p) (colEquiv l) = g (bookEquiv (p, l))) : ∑ x, ∑ y, G x y = ∑ k, g k := by
  rw [← Equiv.sum_comp bookEquiv g, Fintype.sum_prod_type, ← Equiv.sum_comp rowEquiv]
  refine Finset.sum_congr rfl fun p _ => ?_
  rw [← Equiv.sum_comp colEquiv]
  exact Finset.sum_congr rfl fun l _ => h p l

variable (m : (ℓ : Loc nD τ sig) → Buf (Elt Ideal) ℓ) (c : Dev nD)

/-- The projections of grid point `p`'s tokens. -/
abbrev blockProj (p : Fin 2) : FVec Ideal S5x2048 .f32 :=
  k0_pay4 (F := Ideal) (iblk m c 0 (pnt p)) (iblk m c 1 (pnt p)) (iblk m c 2 (pnt p))

theorem blockProj_eq (p : Fin 2) (d : Fin 5) (s : Fin 2048) : blockProj m c p (ix2 d s) = projs m c (ix2 (tok p s) d) := by
  have h := proj_eq m c (tok p s) d
  rw [show ptOf (tok p s) = p from Fin.ext (by show (p.val * 2048 + s.val) / 2048 = p.val; omega),
    show inBlk (tok p s) = s from Fin.ext (by show (p.val * 2048 + s.val) % 2048 = s.val; omega)] at h
  exact h

variable (ζ : Fin 4096 → Fin 5 → ℝ) (hζ : ∀ t d, projs m c (ix2 t d) = (ζ t d : EReal))

include hζ

/-- A point's step adds its tokens' weights of an entry to the joint block. -/
theorem psum_val (p : Fin 2) (acc : FVec Ideal S125x40 .f32) (h : Hi) (l : Lo) :
    psumAt m c p acc (ix2 (rowEquiv h) (colEquiv l))
      = acc (ix2 (rowEquiv h) (colEquiv l)) + ∑ s : Fin 2048, ((wt (bookLogit (ζ (tok p s))) (bookEquiv (h, l)) : ℝ) : EReal) := by
  obtain ⟨a, b, k⟩ := h
  obtain ⟨d, e⟩ := l
  rw [psumAt, psumStep, blk_cs, blk_ms]
  refine (joint_at _ _ acc a b k d e).trans (congrArg₂ (· + ·) rfl (Finset.sum_congr rfl fun s _ => ?_))
  have hv : ∀ d, blockProj m c p (ix2 d s) = (ζ (tok p s) d : EReal) := fun d => (blockProj_eq m c p d s).trans (hζ _ _)
  rw [wt_book, wt_digits, weight_val _ _ s hv 4 5 rfl _ a.isLt, weight_val _ _ s hv 3 5 rfl _ b.isLt,
    weight_val _ _ s hv 2 5 rfl _ k.isLt, weight_val _ _ s hv 1 5 rfl _ d.isLt, weight_val _ _ s hv 0 8 rfl _ e.isLt,
    ← EReal.coe_mul, ← EReal.coe_mul, ← EReal.coe_mul, ← EReal.coe_mul]

/-- A point's step adds its tokens' entropies. -/
theorem ent_val (p : Fin 2) (e : EReal) :
    entAt m c p e = e + ∑ s : Fin 2048, ((ent (bookLogit (ζ (tok p s))) : ℝ) : EReal) := by
  rw [entAt, entStep, blk_cs, blk_ms, entropy_sum, Fin.sum_univ_one]
  refine congrArg (e + ·) (Finset.sum_congr rfl fun s _ => ?_)
  have hv : ∀ d, blockProj m c p (ix2 d s) = (ζ (tok p s) d : EReal) := fun d => (blockProj_eq m c p d s).trans (hζ _ _)
  refine (entropy_val _ _ s hv).trans (congrArg _ ?_)
  rw [ent_book, ent_digits, Fin.sum_univ_five]
  show ent (fun i : Fin 8 => logit (ζ (tok p s)) 0 i.val) + ent (fun i : Fin 5 => logit (ζ (tok p s)) 1 i.val)
    + ent (fun i : Fin 5 => logit (ζ (tok p s)) 2 i.val) + ent (fun i : Fin 5 => logit (ζ (tok p s)) 3 i.val)
    + ent (fun i : Fin 5 => logit (ζ (tok p s)) 4 i.val) = _
  ring

/-- The joint block after both points: every token's weight of the entry, summed. -/
theorem psum_all (h : Hi) (l : Lo) :
    psumAt m c 1 (psumAt m c 0 (k0_pay3 (F := Ideal))) (ix2 (rowEquiv h) (colEquiv l))
      = ∑ t : Fin 4096, ((wt (bookLogit (ζ t)) (bookEquiv (h, l)) : ℝ) : EReal) := by
  have z : k0_pay3 (F := Ideal) (ix2 (rowEquiv h) (colEquiv l)) = 0 := by
    pointwise [k0_pay3]
  rw [psum_val m c ζ hζ, psum_val m c ζ hζ, z, zero_add, sum_tok]

/-- The entropy after both points: every token's, summed. -/
theorem ent_all :
    entAt m c 1 (entAt m c 0 (Scalar.ofBits .f32 0x00000000#32)) = ∑ t : Fin 4096, ((ent (bookLogit (ζ t)) : ℝ) : EReal) := by
  have z : (Scalar.ofBits (F := Ideal) .f32 0x00000000#32 : EReal) = 0 := word_zero
  rw [ent_val m c ζ hζ, ent_val m c ζ hζ, z, zero_add, sum_tok]

/-- The reference's probabilities of the kernel's projections. -/
abbrev refProb : FVec Ideal ReferenceIdeal.S4096x5000 .f32 :=
  Ref.prob (Ref.expo (Ref.logits (projs m c) Ref.book) (Ref.rowMax (Ref.logits (projs m c) Ref.book)))

omit hζ in
/-- A softmax entropy from the weights, in extended reals. -/
theorem ent_coe (f : Fin 5000 → ℝ) :
    ∑ k : Fin 5000, -((wt f k : ℝ) : EReal) * Ideal.log ((wt f k : ℝ) : EReal) = ((ent f : ℝ) : EReal) := by
  rw [ent, coe_sum]
  refine Finset.sum_congr rfl fun k _ => ?_
  rw [Ideal.log_coe, if_neg (not_le.2 (wt_pos f k)), ← EReal.coe_neg, ← EReal.coe_mul]

/-- The mean weight of an entry: the kernel's product by the reciprocal is the reference's quotient. -/
theorem mean_eq (P : FVec Ideal ReferenceIdeal.S4096x5000 .f32) (hP : ∀ t k, P (ix2 t k) = ((wt (bookLogit (ζ t)) k : ℝ) : EReal))
    (h : Hi) (l : Lo) :
    psumAt m c 1 (psumAt m c 0 (k0_pay3 (F := Ideal))) (ix2 (rowEquiv h) (colEquiv l)) * Ideal.ofBits .f32 0x39800000#32
      = Ref.avg P (ix1 (bookEquiv (h, l))) := by
  have e : ∑ t : Fin 4096, P (ix2 t (bookEquiv (h, l))) = ∑ t : Fin 4096, ((wt (bookLogit (ζ t)) (bookEquiv (h, l)) : ℝ) : EReal) :=
    Finset.sum_congr rfl fun t _ => hP t _
  rw [psum_all m c ζ hζ, Ref.avg_apply, e, word_tokens, word_per_token]
  generalize (∑ t : Fin 4096, ((wt (bookLogit (ζ t)) (bookEquiv (h, l)) : ℝ) : EReal)) = S
  exact (Ideal.div_coe (by norm_num) S).symm

/-- The mean entropy of the tokens: both programs'. -/
theorem tokEnt_eq (P : FVec Ideal ReferenceIdeal.S4096x5000 .f32) (hP : ∀ t k, P (ix2 t k) = ((wt (bookLogit (ζ t)) k : ℝ) : EReal))
    (i : ReferenceIdeal.S_.Idx) :
    Ideal.div (entAt m c 1 (entAt m c 0 (Scalar.ofBits .f32 0x00000000#32))) (Ideal.ofBits .f32 0x45800000#32)
      = Ref.tokEnt P i := by
  have e : (∑ t : Fin 4096, ∑ k : Fin 5000, if P (ix2 t k) = 0 then 0 else -P (ix2 t k) * Ideal.log (P (ix2 t k)))
      = ∑ t : Fin 4096, ((ent (bookLogit (ζ t)) : ℝ) : EReal) :=
    Finset.sum_congr rfl fun t _ => by
      have hne : ∀ k, P (ix2 t k) ≠ 0 := fun k => by rw [hP]; exact EReal.coe_ne_zero.2 (wt_pos _ k).ne'
      rw [← ent_coe]
      exact Finset.sum_congr rfl fun k _ => by rw [if_neg (hne k), hP]
  rw [Ref.tokEnt_apply, ent_all m c ζ hζ, e]

omit hζ in
/-- The entropy of the mean weights: both programs'. -/
theorem bookEnt_eq (w : FVec Ideal S125x40 .f32) (a : FVec Ideal ReferenceIdeal.S5000 .f32)
    (hw : ∀ h l, w (ix2 (rowEquiv h) (colEquiv l)) * Ideal.ofBits .f32 0x39800000#32 = a (ix1 (bookEquiv (h, l))))
    (i : ReferenceIdeal.S_.Idx) :
    ∑ x : Fin 125, ∑ y : Fin 40, (0 - w (ix2 x y) * Ideal.ofBits .f32 0x39800000#32)
        * Ideal.log (max (w (ix2 x y) * Ideal.ofBits .f32 0x39800000#32) (Ideal.ofBits .f32 0x3727C5AC#32))
      = Ref.bookEnt a i := by
  rw [Ref.bookEnt_apply]
  exact sum_joint _ _ fun p l => by rw [hw, zero_sub]

/-- The third result is the reference's. -/
theorem aux_eq : G10 m c = Ref.aux (Ref.tokEnt (refProb m c)) (Ref.bookEnt (Ref.avg (refProb m c))) := by
  funext i
  have hP : ∀ t k, refProb m c (ix2 t k) = ((wt (bookLogit (ζ t)) k : ℝ) : EReal) := prob_val (projs m c) ζ hζ
  generalize refProb m c = P at hP
  rw [third_result, Ref.aux_apply, ← tokEnt_eq m c ζ hζ P hP, ← bookEnt_eq _ (Ref.avg P) (mean_eq m c ζ hζ P hP)]
  exact aux_at _ _ i

end Cert.Fsq
end
-- ==== Proof.Infinite.lean ====
/- Infinite projections: if some token has one, the third result is minus infinity in both programs. The token's greatest
   logit is plus infinity, so every shifted logit is minus infinity and every exponential zero; the kernel takes the
   logarithm of a zero mass, the reference divides zero by zero. -/
module

public import proofs.«01_k».proof.Proof.Third

@[expose] public section

set_option maxRecDepth 16384

noncomputable section

namespace Cert.Fsq

open Idealize.ShloMosaic Idealize.ShloMosaic.TcCoe Idealize.SL.Sem

/-! ## Extended reals -/

/-- A sum with a term `⊥` is `⊥`. -/
theorem sum_bot {ι : Type} [Fintype ι] (f : ι → EReal) (a : ι) (h : f a = ⊥) : ∑ i, f i = ⊥ := by
  classical
  rw [← Finset.add_sum_erase _ _ (Finset.mem_univ a), h, EReal.bot_add]

/-- A sum of terms none of which is `⊥` is not `⊥`. -/
theorem sum_ne_bot {ι : Type} (S : Finset ι) (f : ι → EReal) (h : ∀ i, f i ≠ ⊥) : ∑ i ∈ S, f i ≠ ⊥ := by
  classical
  induction S using Finset.induction_on with
  | empty => simp
  | insert a S ha ih => rw [Finset.sum_insert ha]; exact EReal.add_ne_bot_iff.2 ⟨h a, ih⟩

/-- A sum with a term `⊤` and none `⊥` is `⊤`. -/
theorem sum_top {ι : Type} [Fintype ι] (f : ι → EReal) (a : ι) (ha : f a = ⊤) (h : ∀ i, f i ≠ ⊥) : ∑ i, f i = ⊤ := by
  classical
  rw [← Finset.add_sum_erase _ _ (Finset.mem_univ a), ha, EReal.top_add_of_ne_bot (sum_ne_bot _ f h)]

/-- A fold of the maximum over numbers one of which is `⊤` is `⊤`. -/
theorem fold_max_top {ι : Type} (S : Finset ι) (b : EReal) (f : ι → EReal) (a : ι) (ha : a ∈ S) (h : f a = ⊤) : S.fold max b f = ⊤ :=
  top_le_iff.1 ((Finset.le_fold_max ⊤).2 (Or.inr ⟨a, ha, h.ge⟩))

/-- A host reduction by the maximum is `⊤` wherever an entry `⊤` drops to. -/
theorem reduce_max_top {s t u : Shape} {axes : List (Fin s.rank)} (x : s.Idx → EReal) (init : u.Idx → EReal) (h : s.ReducesTo axes t)
    (hu : 0 < u.numel) (j : t.Idx) (i : s.Idx) (hd : h.drop i = j) (hi : x i = ⊤) :
    Host.reduce (max : EReal → EReal → EReal) x init h hu j = ⊤ := by
  rw [Host.reduce_eq_fold]
  exact fold_max_top _ _ _ i (by simp only [Finset.mem_filter, Finset.mem_univ, true_and, hd]) hi

/-- Anything less `⊤` is `⊥`. -/
theorem sub_top (x : EReal) : x - ⊤ = ⊥ := by rw [sub_eq_add_neg, EReal.neg_top, EReal.add_bot]

/-- `⊥` over a positive real is `⊥`. -/
theorem bot_div (r : ℝ) (h : 0 < r) : Ideal.div ⊥ (r : EReal) = ⊥ := by
  rw [Ideal.div_coe h.ne']; exact EReal.bot_mul_coe_of_pos (by positivity)

/-! ## The level at which an infinite projection meets its sign -/

/-- The greatest level, or the least for a projection that is `⊥`. -/
def pick (d : Fin 5) (x : EReal) : ℕ := if x = ⊥ then 0 else nlev d - 1

theorem pick_lt (d : Fin 5) (x : EReal) : pick d x < nlev d := by
  have := (nlev_bounds d).1
  unfold pick
  split <;> omega

theorem cval_least (d : Fin 5) : cval d 0 < 0 := by fin_cases d <;> norm_num [cval, hlev]

theorem cval_greatest (d : Fin 5) : 0 < cval d (nlev d - 1) := by fin_cases d <;> norm_num [cval, hlev, nlev]

/-- An infinite projection times its picked level's code is `⊤`. -/
theorem pick_top (d : Fin 5) (x : EReal) (h : x = ⊤ ∨ x = ⊥) : x * ((cval d (pick d x) : ℝ) : EReal) = ⊤ := by
  rcases h with rfl | rfl
  · rw [pick, if_neg top_ne_bot]; exact EReal.top_mul_coe_of_pos (cval_greatest d)
  · rw [pick, if_pos rfl]; exact EReal.bot_mul_coe_of_neg (cval_least d)

/-- No projection times its picked level's code is `⊥`. -/
theorem pick_ne_bot (d : Fin 5) (x : EReal) : x * ((cval d (pick d x) : ℝ) : EReal) ≠ ⊥ := by
  induction x with
  | bot => rw [pick_top d _ (Or.inr rfl)]; exact top_ne_bot
  | top => rw [pick_top d _ (Or.inl rfl)]; exact top_ne_bot
  | coe r => rw [← EReal.coe_mul]; exact EReal.coe_ne_bot _

/-- The codebook has an entry of any five levels. -/
theorem entry_of (n : Fin 5 → ℕ) (h : ∀ d, n d < nlev d) : ∃ k : Fin 5000, ∀ d, k.val / base d % nlev d = n d := by
  have h0 : n 0 < 8 := h 0
  have h1 : n 1 < 5 := h 1
  have h2 : n 2 < 5 := h 2
  have h3 : n 3 < 5 := h 3
  have h4 : n 4 < 5 := h 4
  refine ⟨⟨n 0 + 8 * n 1 + 40 * n 2 + 200 * n 3 + 1000 * n 4, by omega⟩, fun d => ?_⟩
  match d with
  | 0 => show (n 0 + 8 * n 1 + 40 * n 2 + 200 * n 3 + 1000 * n 4) / 1 % 8 = n 0; omega
  | 1 => show (n 0 + 8 * n 1 + 40 * n 2 + 200 * n 3 + 1000 * n 4) / 8 % 5 = n 1; omega
  | 2 => show (n 0 + 8 * n 1 + 40 * n 2 + 200 * n 3 + 1000 * n 4) / 40 % 5 = n 2; omega
  | 3 => show (n 0 + 8 * n 1 + 40 * n 2 + 200 * n 3 + 1000 * n 4) / 200 % 5 = n 3; omega
  | 4 => show (n 0 + 8 * n 1 + 40 * n 2 + 200 * n 3 + 1000 * n 4) / 1000 % 5 = n 4; omega

/-! ## The reference -/

section Reference

open Cert.ReferenceIdeal Cert.ReferenceIdeal.Gen

variable (p : FVec Ideal S4096x5 .f32) (t : Fin 4096) (d : Fin 5) (hp : p (ix2 t d) = ⊤ ∨ p (ix2 t d) = ⊥)

include hp

/-- Some entry of the codebook has logit `⊤`. -/
theorem logits_top : ∃ k, Ref.logits p Ref.book (ix2 t k) = ⊤ := by
  obtain ⟨k, hk⟩ := entry_of (fun d => pick d (p (ix2 t d))) fun d => pick_lt _ _
  refine ⟨k, ?_⟩
  have e : ∑ x : Fin 5, p (ix2 t x) * Ref.book (ix2 k x) = ⊤ :=
    sum_top _ d (by rw [book_val, hk]; exact pick_top _ _ hp) fun x => by rw [book_val, hk]; exact pick_ne_bot _ _
  rw [Ref.logits_apply, e, word_neg_two, word_hundred, EReal.coe_mul_top_of_neg (by norm_num), EReal.neg_bot,
    EReal.top_mul_coe_of_pos (by norm_num)]

/-- The token's greatest logit is `⊤`. -/
theorem rowMax_top : Ref.rowMax (Ref.logits p Ref.book) (ix1 t) = ⊤ := by
  obtain ⟨k, hk⟩ := logits_top p t d hp
  generalize Ref.logits p Ref.book = x at hk
  refine reduce_max_top x _ reducesTo_S4096x5000_S4096_d1 h_S_ (ix1 t) (ix2 t k) ?_ hk
  funext a
  match a with
  | ⟨0, _⟩ => rfl

/-- The token's probabilities are `⊥`. -/
theorem prob_bot (k : Fin 5000) :
    Ref.prob (Ref.expo (Ref.logits p Ref.book) (Ref.rowMax (Ref.logits p Ref.book))) (ix2 t k) = ⊥ := by
  have e : ∀ j, Ref.expo (Ref.logits p Ref.book) (Ref.rowMax (Ref.logits p Ref.book)) (ix2 t j) = 0 := fun j => by
    rw [Ref.expo_apply, rowMax_top p t d hp, max_eq_right le_top, sub_top]; rfl
  rw [Ref.prob_apply]
  simp only [e, Finset.sum_const_zero]
  simp [Ideal.div]

omit hp in
/-- A token whose probabilities are `⊥` makes the mean entropy `⊥`. -/
theorem tokEnt_bot (P : FVec Ideal S4096x5000 .f32) (hP : ∀ k, P (ix2 t k) = ⊥) (i : S_.Idx) : Ref.tokEnt P i = ⊥ := by
  have e : (∑ t : Fin 4096, ∑ k : Fin 5000, if P (ix2 t k) = 0 then 0 else -P (ix2 t k) * Ideal.log (P (ix2 t k))) = ⊥ :=
    sum_bot _ t (sum_bot _ 0 (by rw [hP, if_neg EReal.bot_ne_zero]; exact EReal.top_mul_bot))
  rw [Ref.tokEnt_apply, e, word_tokens]
  exact bot_div _ (by norm_num)

end Reference

/-! ## The kernel -/

section Kernel

open Cert.KernelIdeal Cert.KernelIdeal.Gen Cert.KernelIdeal.Value

variable (v : FVec Ideal S5x2048 .f32) (s : Fin 2048) (d : Fin 5) (hv : v (ix2 d s) = ⊤ ∨ v (ix2 d s) = ⊥)

include hv

/-- The picked level has logit `⊤`. -/
theorem level_top : ∃ j, level codeTab maskTab v j d s = ⊤ := by
  have hj := pick_lt d (v (ix2 d s))
  refine ⟨⟨pick d (v (ix2 d s)), lt_of_lt_of_le hj (nlev_bounds d).2⟩, ?_⟩
  have e : maskTab (ix2 ⟨pick d (v (ix2 d s)), lt_of_lt_of_le hj (nlev_bounds d).2⟩ d) = 0 := by
    show Ideal.ofBits .f32 (lit2 (S8x5.rowMajor (ix2 _ d))) = 0
    rw [masks_word, if_pos hj]; exact word_zero
  rw [level, e, if_neg (lt_irrefl _), add_zero, word_two_hundred]
  show _ * Ideal.ofBits .f32 (lit1 (S8x5.rowMajor (ix2 _ d))) = _
  rw [codes_val _ d hj, mul_assoc, pick_top d _ hv, EReal.coe_mul_top_of_pos (by norm_num)]

/-- The dimension's mass is zero. -/
theorem mass_zero : k0_pay12 (F := Ideal) v codeTab maskTab (ix2 d s) = 0 := by
  obtain ⟨j, hj⟩ := level_top v s d hv
  rw [mass_at]
  refine Finset.sum_eq_zero fun x _ => ?_
  rw [shifted_at, fold_max_top _ _ _ j (Finset.mem_univ _) hj, sub_top]; rfl

/-- The token's entropy is `⊥`. -/
theorem entropy_bot : k0_pay13 (F := Ideal) v codeTab maskTab (ix2 0 s) = ⊥ := by
  rw [entropy_at, sum_bot _ d (by rw [mass_zero v s d hv, ← EReal.coe_zero, Ideal.log_coe, if_pos le_rfl]), sub_eq_add_neg, EReal.bot_add]

end Kernel

section Third

open Cert.KernelIdeal Cert.KernelIdeal.Gen Cert.KernelIdeal.Value

variable (m : (ℓ : Loc nD τ sig) → Buf (Elt Ideal) ℓ) (c : Dev nD)

/-- A point's step from `⊥` gives `⊥`. -/
theorem ent_keeps (p : Fin 2) : entAt m c p (⊥ : EReal) = (⊥ : EReal) := by
  rw [entAt, entStep, entropy_sum, EReal.bot_add]

/-- A point that handles a token with an infinite projection leaves `⊥`. -/
theorem ent_bot (p : Fin 2) (s : Fin 2048) (d : Fin 5) (h : projs m c (ix2 (tok p s) d) = ⊤ ∨ projs m c (ix2 (tok p s) d) = ⊥) (e : EReal) :
    entAt m c p e = (⊥ : EReal) := by
  rw [entAt, entStep, blk_cs, blk_ms, entropy_sum, Fin.sum_univ_one,
    sum_bot _ s (entropy_bot _ s d (by rw [← blockProj_eq] at h; exact h)), EReal.add_bot]

/-- With an infinite projection the entropy after both points is `⊥`. -/
theorem ent_all_bot (t : Fin 4096) (d : Fin 5) (h : projs m c (ix2 t d) = ⊤ ∨ projs m c (ix2 t d) = ⊥) (e : EReal) :
    entAt m c 1 (entAt m c 0 e) = (⊥ : EReal) := by
  by_cases ht : t.val < 2048
  · rw [show t = tok 0 ⟨t.val, ht⟩ from Fin.ext (by show t.val = 0 * 2048 + t.val; omega)] at h
    rw [ent_bot m c 0 _ d h, ent_keeps]
  · rw [show t = tok 1 ⟨t.val - 2048, by omega⟩ from Fin.ext (by show t.val = 1 * 2048 + (t.val - 2048); omega)] at h
    exact ent_bot m c 1 _ d h _

/-- A difference from `⊥`, scaled by the loss weight, is `⊥`. -/
theorem weight_bot (x : EReal) : Ideal.ofBits .f32 0x3DCCCCCD#32 * (⊥ - x) = ⊥ := by
  obtain ⟨r, hr⟩ := word_real 0x3DCCCCCD#32 (by decide)
  have hp : 0 < r := by
    have h : (0 : EReal) < Ideal.ofBits .f32 0x3DCCCCCD#32 := by
      rw [show (0 : EReal) = ((0 : ℝ) : EReal) from rfl]
      simp [Ideal.ofBits, Ideal.ieee, -EReal.coe_mul, -EReal.coe_neg]
    rw [hr] at h
    exact EReal.coe_pos.1 h
  rw [hr, sub_eq_add_neg, EReal.bot_add, EReal.coe_mul_bot_of_pos hp]

/-- With an infinite projection the third result is `⊥` in both programs. -/
theorem aux_eq_infinite (t : Fin 4096) (d : Fin 5) (h : projs m c (ix2 t d) = ⊤ ∨ projs m c (ix2 t d) = ⊥) :
    G10 m c = Ref.aux (Ref.tokEnt (refProb m c)) (Ref.bookEnt (Ref.avg (refProb m c))) := by
  funext i
  have hP : ∀ k, refProb m c (ix2 t k) = ⊥ := prob_bot (projs m c) t d h
  generalize refProb m c = P at hP
  rw [third_result, Ref.aux_apply, tokEnt_bot t P hP, weight_bot]
  refine (aux_at _ _ i).trans ?_
  rw [ent_all_bot m c t d h, word_tokens, bot_div _ (by norm_num), weight_bot]

/-- The third result is the reference's, whatever the arguments. -/
theorem aux_eq_all : G10 m c = Ref.aux (Ref.tokEnt (refProb m c)) (Ref.bookEnt (Ref.avg (refProb m c))) := by
  by_cases h : ∃ t d, projs m c (ix2 t d) = ⊤ ∨ projs m c (ix2 t d) = ⊥
  · obtain ⟨t, d, h⟩ := h
    exact aux_eq_infinite m c t d h
  · refine aux_eq m c (fun t d => (projs m c (ix2 t d)).toReal) fun t d => ?_
    exact (EReal.coe_toReal (fun e => h ⟨t, d, Or.inl e⟩) fun e => h ⟨t, d, Or.inr e⟩).symm

end Third

end Cert.Fsq
end
-- ==== Proof.Claims.lean ====
/- The value claim: at the reals the kernel and the reference leave equal results, whatever the arguments. -/
module

public import proofs.«01_k».proof.Proof.Infinite
public import proofs.«01_k».proof.Defs

@[expose] public section

set_option maxRecDepth 16384

noncomputable section

namespace Cert.Fsq

open Idealize.ShloMosaic Idealize.ShloMosaic.TcCoe Idealize.SL.Sem

/-- At the reals, from arguments that agree, the kernel's three results are the reference's. -/
theorem results_equal : Cert.algebraic_KernelIdeal_ReferenceIdeal := by
  intro m ρ m' ρ' _ hagree
  refine ⟨_, _, _, Cert.KernelIdeal.Value.run (F := Ideal) m ρ, ?_⟩
  refine (θ_run _ _ _).mono (fun _ h c => ?_) (Cert.ReferenceIdeal.Value.run (F := Ideal) m' ρ')
  obtain ⟨r0, r1, r2, rest⟩ := h c
  obtain ⟨a0, a1, a2, a3, a4⟩ := hagree c
  refine ⟨r0.trans ?_, r1.trans ?_, r2.trans ?_, rest⟩
  · rw [out_eq]
    unfold projs
    rw [← a0, ← a1, ← a2, ← a3, ← a4]
    rfl
  · rw [idx_eq]
    unfold projs
    rw [← a0, ← a1, ← a2]
    rfl
  · rw [aux_eq_all]
    unfold refProb projs
    rw [← a0, ← a1, ← a2]
    exact Ref.res_eq m' c

end Cert.Fsq
end
-- ==== Proof.Range.lean ====
/- The indices are numbers of codebook entries: whatever the projections, each rounded value lies among its dimension's
   levels, and the index lies in 0 … 4999. -/
module

public import proofs.«01_k».proof.Proof.Codes
public import proofs.«01_k».proof.Proof.Reals

@[expose] public section

set_option maxRecDepth 16384

noncomputable section

namespace Cert.Fsq

open Idealize.ShloMosaic Idealize.ShloMosaic.TcCoe Idealize.SL.Sem

/-- Rounding a number that lies within a half of an interval of integers gives an integer of the interval. -/
theorem round_bounds (lo hi : ℤ) (y : ℝ) (h1 : (lo : ℝ) - 1 / 2 < y) (h2 : y < (hi : ℝ) + 1 / 2) :
    lo ≤ Ideal.roundHalfEven y ∧ Ideal.roundHalfEven y ≤ hi := by
  have hf := Int.floor_le y
  have hg := Int.lt_floor_add_one y
  have h3 : lo - 1 ≤ ⌊y⌋ := Int.le_floor.2 (by push_cast; linarith)
  have h4 : ⌊y⌋ ≤ hi := by
    have : ((⌊y⌋ : ℤ) : ℝ) < ((hi + 1 : ℤ) : ℝ) := by push_cast; linarith
    have := Int.cast_lt.1 this
    omega
  have h5 : y - ⌊y⌋ ≤ 1 / 2 → lo ≤ ⌊y⌋ := fun h => by
    have : ((lo - 1 : ℤ) : ℝ) < ((⌊y⌋ : ℤ) : ℝ) := by push_cast; linarith
    have := Int.cast_lt.1 this
    omega
  have h6 : 1 / 2 ≤ y - ⌊y⌋ → ⌊y⌋ + 1 ≤ hi := fun h => by
    have : ((⌊y⌋ : ℤ) : ℝ) < ((hi : ℤ) : ℝ) := by linarith
    have := Int.cast_lt.1 this
    omega
  unfold Ideal.roundHalfEven
  dsimp only
  split_ifs with a b e
  · exact ⟨h5 a.le, h4⟩
  · exact ⟨by omega, h6 b.le⟩
  · exact ⟨h5 (not_lt.1 b), h4⟩
  · exact ⟨by omega, h6 (not_lt.1 a)⟩

/-- A hyperbolic tangent lies between -1 and 1. -/
theorem tanh_bounds (x : EReal) : ∃ r : ℝ, Ideal.tanh x = (r : EReal) ∧ -1 ≤ r ∧ r ≤ 1 := by
  induction x with
  | bot => exact ⟨-1, rfl, le_rfl, by norm_num⟩
  | top => exact ⟨1, rfl, by norm_num, le_rfl⟩
  | coe r => exact ⟨_, rfl, (Real.neg_one_lt_tanh r).le, (Real.tanh_lt_one r).le⟩

/-- The scale and the offset of each dimension keep the bounded value within a half of the levels. -/
theorem scale_bounds (d : Fin 5) : ∃ a b : ℝ,
    Ideal.ofBits .f32 (ReferenceIdeal.lit0 (ReferenceIdeal.S5.rowMajor (ix1 d))) = (a : EReal)
    ∧ Ideal.ofBits .f32 (ReferenceIdeal.lit1 (ReferenceIdeal.S5.rowMajor (ix1 d))) = (b : EReal)
    ∧ 0 ≤ a ∧ a + b < (hlev d : ℝ) + 1 / 2 ∧ a - b < (nlev d : ℝ) - 1 - (hlev d : ℝ) + 1 / 2 := by
  have h : ∀ d : Fin 5, ReferenceIdeal.lit0 (ReferenceIdeal.S5.rowMajor (ix1 d)) = (if d = 0 then 0x40603958#32 else 0x400020C5#32)
      ∧ ReferenceIdeal.lit1 (ReferenceIdeal.S5.rowMajor (ix1 d)) = (if d = 0 then 0x3F000000#32 else 0x00000000#32) := by decide +kernel
  have wa : Ideal.ofBits .f32 0x40603958#32 = ((1836843 / 524288 : ℝ) : EReal) := by
    simp [Ideal.ofBits, Ideal.ieee, -EReal.coe_mul, -EReal.coe_neg]; norm_num
  have wb : Ideal.ofBits .f32 0x400020C5#32 = ((8396997 / 4194304 : ℝ) : EReal) := by
    simp [Ideal.ofBits, Ideal.ieee, -EReal.coe_mul, -EReal.coe_neg]; norm_num
  rw [(h d).1, (h d).2]
  by_cases hd : d = 0
  · subst hd
    exact ⟨_, _, wa, word_half, by norm_num, by norm_num [hlev], by norm_num [hlev, nlev]⟩
  · rw [if_neg hd, if_neg hd]
    refine ⟨_, _, wb, word_zero, by norm_num, ?_, ?_⟩ <;> fin_cases d <;> first
      | exact absurd rfl hd
      | norm_num [hlev, nlev]

/-- The level of a token on a dimension: the rounded value plus half the width is a natural number below the level count. -/
theorem digit_val (p : FVec Ideal ReferenceIdeal.S4096x5 .f32) (t : Fin 4096) (d : Fin 5) : ∃ n : ℕ, n < nlev d
    ∧ Ref.codes (Ref.bounded p) (ix2 t d) * ((hlev d : ℝ) : EReal) + ((hlev d : ℝ) : EReal) = ((n : ℝ) : EReal) := by
  obtain ⟨a, b, ha, hb, h0, h1, h2⟩ := scale_bounds d
  obtain ⟨y, hy, hy1, hy2⟩ := tanh_bounds (p (ix2 t d) + Ref.rows ReferenceIdeal.lit2 (ix2 t d))
  obtain ⟨r, hr, hc⟩ := codes_eq p t d
  have hbd : Ref.bounded p (ix2 t d) = ((y * a - b : ℝ) : EReal) := by
    rw [Ref.bounded_apply, hy, Ref.rows_apply, Ref.rows_apply, ha, hb, EReal.coe_sub, EReal.coe_mul]
  rw [hbd] at hr
  have hr' : (((Ideal.roundHalfEven (y * a - b) : ℤ) : ℝ) : EReal) = (r : EReal) := hr
  have hr2 := EReal.coe_eq_coe_iff.1 hr'
  have hb := round_bounds (-(hlev d : ℤ)) ((nlev d : ℤ) - 1 - (hlev d : ℤ)) (y * a - b)
    (by push_cast; nlinarith) (by push_cast; nlinarith)
  have hn : ((Ideal.roundHalfEven (y * a - b) + (hlev d : ℤ)).toNat : ℤ) = Ideal.roundHalfEven (y * a - b) + (hlev d : ℤ) :=
    Int.toNat_of_nonneg (by omega)
  refine ⟨(Ideal.roundHalfEven (y * a - b) + (hlev d : ℤ)).toNat, by omega, ?_⟩
  have hh := (hlev_pos d).ne'
  rw [hc, ← EReal.coe_mul, ← EReal.coe_add]
  refine congrArg _ ?_
  have e : ((((Ideal.roundHalfEven (y * a - b) + (hlev d : ℤ)).toNat : ℤ)) : ℝ) = ((Ideal.roundHalfEven (y * a - b) + (hlev d : ℤ) : ℤ) : ℝ) :=
    congrArg _ hn
  rw [Int.cast_natCast] at e
  rw [e, ← hr2]
  push_cast
  field_simp

/-- The strides of the digits, as numbers. -/
theorem stride_val (d : Fin 5) : Ideal.ofBits .f32 (ReferenceIdeal.lit4 (ReferenceIdeal.S5.rowMajor (ix1 d))) = ((base d : ℝ) : EReal) := by
  have h : ∀ d : Fin 5, ReferenceIdeal.lit4 (ReferenceIdeal.S5.rowMajor (ix1 d))
      = (![0x3F800000#32, 0x41000000#32, 0x42200000#32, 0x43480000#32, 0x447A0000#32] : Fin 5 → BitVec 32) d := by decide +kernel
  rw [h]
  fin_cases d <;> simp [base, Ideal.ofBits, Ideal.ieee, -EReal.coe_mul, -EReal.coe_neg] <;> norm_num

/-- A natural number below 5000, converted to a word, is the number's word. -/
theorem fptosi_nat (n : ℕ) (h : n < 5000) : Ideal.fptosi 32 (((n : ℝ)) : EReal) = BitVec.ofNat 32 n := by
  rw [Ideal.fptosi, Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) by norm_num; omega]
  exact BitVec.ofInt_natCast 32 n

/-- A token's index is the word of a codebook entry's number. -/
theorem idx_range (p : FVec Ideal ReferenceIdeal.S4096x5 .f32) (t : Fin 4096) :
    ∃ k : Fin 5000, Ref.idx (Ref.codes (Ref.bounded p)) (ix2 t 0) = BitVec.ofNat 32 k.val := by
  choose n hn hv using digit_val p t
  have h0 : n 0 < 8 := hn 0
  have h1 : n 1 < 5 := hn 1
  have h2 : n 2 < 5 := hn 2
  have h3 : n 3 < 5 := hn 3
  have h4 : n 4 < 5 := hn 4
  have hk : ∑ d, n d * base d < 5000 := by
    rw [Fin.sum_univ_five]
    show n 0 * 1 + n 1 * 8 + n 2 * 40 + n 3 * 200 + n 4 * 1000 < 5000
    omega
  refine ⟨⟨_, hk⟩, ?_⟩
  rw [Ref.idx_apply]
  refine Eq.trans (congrArg (Ideal.fptosi 32) ?_) (fptosi_nat _ hk)
  rw [Nat.cast_sum, coe_sum]
  refine Finset.sum_congr rfl fun d _ => ?_
  rw [Ref.rows_apply, Ref.rows_apply, width_val, stride_val, hv, ← EReal.coe_mul, Nat.cast_mul]

end Cert.Fsq
end
-- ==== Proof.InCodebook.lean ====
/- The range claims: the kernel's and the reference's indices are numbers of codebook entries. -/
module

public import proofs.«01_k».proof.Proof.Range
public import proofs.«01_k».proof.Defs

@[expose] public section

set_option maxRecDepth 16384

noncomputable section

namespace Cert.Fsq

open Idealize.ShloMosaic Idealize.ShloMosaic.TcCoe Idealize.SL.Sem

/-- The range predicate spreads two scalars over the tokens. -/
theorem range_facts : Cert.Post_in_codebook.Facts where
  bcast_S_S4096x1 := by decide +kernel

/-- The word of a natural number below 5000 is at least 0 and less than 5000. -/
theorem word_range (k : Fin 5000) : IntOp.andi (IntOp.cmpi .sge (BitVec.ofNat 32 k.val) 0#32)
    (IntOp.cmpi .slt (BitVec.ofNat 32 k.val) 5000#32) = 1#1 := by
  have hk := k.isLt
  have ht : (BitVec.ofNat 32 k.val).toInt = (k.val : ℤ) := by
    have hn : (BitVec.ofNat 32 k.val).toNat = k.val := (BitVec.toNat_ofNat _ _).trans (Nat.mod_eq_of_lt (by omega))
    rw [BitVec.toInt_eq_toNat_of_lt (by rw [hn]; omega), hn]
  have h0 : (0#32).sle (BitVec.ofNat 32 k.val) = true := by
    rw [BitVec.sle_iff_toInt_le, ht]; simp
  have h1 : (BitVec.ofNat 32 k.val).slt 5000#32 = true := by
    rw [BitVec.slt_iff_toInt_lt, ht, show (5000#32).toInt = 5000 from rfl]; exact_mod_cast hk
  show BitVec.ofBool ((0#32).sle (BitVec.ofNat 32 k.val)) &&& BitVec.ofBool ((BitVec.ofNat 32 k.val).slt 5000#32) = 1#1
  rw [h0, h1]
  rfl

/-- Of the indices of any projections, the range predicate is all ones. -/
theorem range_ones (p : FVec Ideal ReferenceIdeal.S4096x5 .f32) (a0 : FVec Ideal Post_in_codebook.S2x2048x1024 .f32)
    (a1 : FVec Ideal Post_in_codebook.S5x1024 .f32) (a2 : FVec Ideal Post_in_codebook.S5 .f32)
    (a3 : FVec Ideal Post_in_codebook.S1024x5 .f32) (a4 : FVec Ideal Post_in_codebook.S1024 .f32)
    (a5 : FVec Ideal Post_in_codebook.S4096x1024 .f32) (a7 : FVec Ideal Post_in_codebook.S1x1 .f32) :
    @Cert.Post_in_codebook.fn range_facts Ideal _ a0 a1 a2 a3 a4 a5 (Ref.idx (Ref.codes (Ref.bounded p))) a7 = fun _ => 1#1 := by
  funext i
  obtain ⟨t, rfl⟩ : ∃ t : Fin 4096, i = ix2 t 0 :=
    ⟨i 0, (eq_ix2 i).trans (congrArg (ix2 (i 0)) (Subsingleton.elim (α := Fin 1) _ _))⟩
  obtain ⟨k, hk⟩ := idx_range p t
  refine Eq.trans ?_ (word_range k)
  rw [← hk]
  rfl

/-- At the reals every index of the kernel is the number of a codebook entry. -/
theorem kernel_in_codebook : Cert.holds_KernelIdeal_in_codebook (hPost_in_codebook := range_facts) := by
  intro m ρ _
  refine (θ_run _ _ _).mono (fun _ h c => ?_) (Cert.KernelIdeal.Value.run (F := Ideal) m ρ)
  obtain ⟨-, r1, -, f0, f1, f2, f3, f4⟩ := h c
  refine ⟨f0, f1, f2, f3, f4, ?_⟩
  rw [r1.trans (idx_eq m c)]
  exact range_ones _ _ _ _ _ _ _ _

/-- At the reals every index of the reference is the number of a codebook entry. -/
theorem reference_in_codebook : Cert.holds_ReferenceIdeal_in_codebook (hPost_in_codebook := range_facts) := by
  intro m ρ _
  refine (θ_run _ _ _).mono (fun _ h c => ?_) (Cert.ReferenceIdeal.Value.run (F := Ideal) m ρ)
  obtain ⟨-, r1, -, f0, f1, f2, f3, f4⟩ := h c
  refine ⟨f0, f1, f2, f3, f4, ?_⟩
  rw [r1]
  exact range_ones _ _ _ _ _ _ _ _

end Cert.Fsq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Frames
public import proofs.«01_k».proof.Proof.Claims
public import proofs.«01_k».proof.Proof.InCodebook
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Fsq.range_facts,
  Cert.Fsq.kernel_frame, Cert.Fsq.kernelIdeal_frame, Cert.Fsq.referenceIdeal_frame,
  Cert.Fsq.mask_preserves, Cert.Fsq.results_equal,
  Cert.Fsq.kernel_in_codebook, Cert.Fsq.reference_in_codebook⟩

end Cert.Proof

end
